-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v174)) (v1 : (c : Dev Cert.KernelIdeal.nD) → Buf (Elt Ideal) ((c.tc : Thread Cert.KernelIdeal.nD Cert.KernelIdeal.τ).loc Cert.KernelIdeal.main_v175)) (v2 : (c : Dev Cert.KernelIdeal.nD) → Buf (Elt Ideal) ((c.tc : Thread Cert.KernelIdeal.nD Cert.KernelIdeal.τ).loc Cert.KernelIdeal.main_v176)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v174) = v0 c
          ∧ r.2.mem ((c.tc : Thread Cert.KernelIdeal.nD Cert.KernelIdeal.τ).loc Cert.KernelIdeal.main_v175) = v1 c
          ∧ r.2.mem ((c.tc : Thread Cert.KernelIdeal.nD Cert.KernelIdeal.τ).loc Cert.KernelIdeal.main_v176) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v107_6) = v1 c
          ∧ r.2.mem ((c.tc : Thread Cert.ReferenceIdeal.nD Cert.ReferenceIdeal.τ).loc Cert.ReferenceIdeal.main_v107_7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x1024 : Shape := ⟨3, ![4, 2048, 1024]⟩
abbrev S4x8x64x64 : Shape := ⟨4, ![4, 8, 64, 64]⟩
abbrev S1024x512 : Shape := ⟨2, ![1024, 512]⟩
abbrev S512x1024 : Shape := ⟨2, ![512, 1024]⟩
abbrev S64 : Shape := ⟨1, ![64]⟩
abbrev S8 : Shape := ⟨1, ![8]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x8x64x64 : S_.BroadcastsInDim S4x8x64x64 (![] : Fin 0 → Fin S4x8x64x64.rank)
  reducesTo_S4x8x64x64_S_d0_1_2_3 : S4x8x64x64.ReducesTo [0, 1, 2, 3] S_
  bcast_S_S1024x512 : S_.BroadcastsInDim S1024x512 (![] : Fin 0 → Fin S1024x512.rank)
  reducesTo_S1024x512_S_d0_1 : S1024x512.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg10 : FVec F S64 .f32) (main_arg11 : FVec F S64 .f32) (main_arg12 : FVec F S64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S1024x512 .f32) (main_arg5 : FVec F S1024x512 .f32) (main_arg9 : FVec F S64 .f32) (main_arg10 : FVec F S64 .f32) (main_arg11 : FVec F S64 .f32) (main_arg12 : FVec F S64 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_v33

def fn {F : FTy → Type} [FloatOps F] (main_arg0 : FVec F S4x2048x1024 .f32) (main_arg1 : FVec F S4x8x64x64 .f32) (main_arg2 : FVec F S4x8x64x64 .f32) (main_arg3 : FVec F S1024x512 .f32) (main_arg4 : FVec F S1024x512 .f32) (main_arg5 : FVec F S1024x512 .f32) (main_arg6 : FVec F S512x1024 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S8 .f32) (main_arg14 : FVec F S8 .f32) (main_arg15 : FVec F S1024x1024 .f32) (main_arg16 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x8x64x64 .f32 := Host.absf main_arg1
  let main_cst_0 : FVec F S_ .f32 := constant S_ .f32 0x7F800000#32
  let main_v5 : FVec F S4x8x64x64 .f32 := broadcastInDim S4x8x64x64 ![] bcast_S_S4x8x64x64 main_cst_0
  let main_v6 : IVec S4x8x64x64 1 := cmpf .olt main_v4 main_v5
  let main_c_1 : IVec S_ 1 := constantI S_ 1 1#1
  let main_v7 : IVec S_ 1 := (fun x v => Host.reduce IntOp.andi x v reducesTo_S4x8x64x64_S_d0_1_2_3 h_S_) main_v6 main_c_1
  let main_v8 : IVec S_ 1 := andi main_v3 main_v7
  let main_v9 : FVec F S4x8x64x64 .f32 := Host.absf main_arg2
  let main_cst_2 : FVec F S_ .f32 := constant S_ .f32 0x7F800000#32
  let main_v10 : FVec F S4x8x64x64 .f32 := broadcastInDim S4x8x64x64 ![] bcast_S_S4x8x64x64 main_cst_2
  let main_v11 : IVec S4x8x64x64 1 := cmpf .olt main_v9 main_v10
  let main_c_3 : IVec S_ 1 := constantI S_ 1 1#1
  let main_v12 : IVec S_ 1 := (fun x v => Host.reduce IntOp.andi x v reducesTo_S4x8x64x64_S_d0_1_2_3 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg9 main_arg10 main_arg11 main_arg12 main_v13 main_v16
-- ==== Kernel.lean ====
abbrev S4x2048x1024 : Shape := ⟨3, ![4, 2048, 1024]⟩
abbrev S4x8x64x64 : Shape := ⟨4, ![4, 8, 64, 64]⟩
abbrev S1024x512 : Shape := ⟨2, ![1024, 512]⟩
abbrev S512x1024 : Shape := ⟨2, ![512, 1024]⟩
abbrev S64 : Shape := ⟨1, ![64]⟩
abbrev S8 : Shape := ⟨1, ![8]⟩
abbrev S1024x1024 : Shape := ⟨2, ![1024, 1024]⟩
abbrev S1024 : Shape := ⟨1, ![1024]⟩
abbrev S8192x1024 : Shape := ⟨2, ![8192, 1024]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x64 : Shape := ⟨2, ![1, 64]⟩
abbrev S8x64 : Shape := ⟨2, ![8, 64]⟩
abbrev S512 : Shape := ⟨1, ![512]⟩
abbrev S1536 : Shape := ⟨1, ![1536]⟩
abbrev S1x1536 : Shape := ⟨2, ![1, 1536]⟩
abbrev S1x8x1536 : Shape := ⟨3, ![1, 8, 1536]⟩
abbrev S8x1536 : Shape := ⟨2, ![8, 1536]⟩
abbrev S8x1 : Shape := ⟨2, ![8, 1]⟩
abbrev S65 : Shape := ⟨1, ![65]⟩
abbrev S1x65 : Shape := ⟨2, ![1, 65]⟩
abbrev S8x65 : Shape := ⟨2, ![8, 65]⟩
abbrev S64x1 : Shape := ⟨2, ![64, 1]⟩
abbrev S64x64x1 : Shape := ⟨3, ![64, 64, 1]⟩
abbrev S8x64x64 : Shape := ⟨3, ![8, 64, 64]⟩
abbrev S1x64x64 : Shape := ⟨3, ![1, 64, 64]⟩
abbrev S8x1x1 : Shape := ⟨3, ![8, 1, 1]⟩
abbrev S8x1x64 : Shape := ⟨3, ![8, 1, 64]⟩
abbrev S8x64x1 : Shape := ⟨3, ![8, 64, 1]⟩
abbrev S8x64x6 : Shape := ⟨3, ![8, 64, 6]⟩
abbrev S8x64x122 : Shape := ⟨3, ![8, 64, 122]⟩
abbrev S8x64x128 : Shape := ⟨3, ![8, 64, 128]⟩
abbrev S8192x512 : Shape := ⟨2, ![8192, 512]⟩
abbrev S256x1024 : Shape := ⟨2, ![256, 1024]⟩
abbrev S256x512 : Shape := ⟨2, ![256, 512]⟩
abbrev S1x512 : Shape := ⟨2, ![1, 512]⟩
abbrev S4x2048x512 : Shape := ⟨3, ![4, 2048, 512]⟩
abbrev S1x64x512 : Shape := ⟨3, ![1, 64, 512]⟩
abbrev S1x8x64x64 : Shape := ⟨4, ![1, 8, 64, 64]⟩
abbrev S64x512 : Shape := ⟨2, ![64, 512]⟩
abbrev S128x64 : Shape := ⟨2, ![128, 64]⟩
abbrev S128x128 : Shape := ⟨2, ![128, 128]⟩
abbrev S1x1x64x64 : Shape := ⟨4, ![1, 1, 64, 64]⟩
abbrev S64x128 : Shape := ⟨2, ![64, 128]⟩
abbrev S1x64x1 : Shape := ⟨3, ![1, 64, 1]⟩
abbrev S1x1024 : Shape := ⟨2, ![1, 1024]⟩
abbrev S1x8x1024 : Shape := ⟨3, ![1, 8, 1024]⟩
abbrev S8x1024 : Shape := ⟨2, ![8, 1024]⟩

abbrev nBuf : Space → Nat
  | .hbm => 243
  | .vmem => 42
  | .smem => 0
  | _ => 0

abbrev hbmTy0_0 (i : Nat) : BufTy := match i % 128 with
  | 0 => ⟨S4x2048x1024, .f32⟩
  | 1 => ⟨S4x8x64x64, .f32⟩
  | 2 => ⟨S4x8x64x64, .f32⟩
  | 3 => ⟨S1024x512, .f32⟩
  | 4 => ⟨S1024x512, .f32⟩
  | 5 => ⟨S1024x512, .f32⟩
  | 6 => ⟨S512x1024, .f32⟩
  | 7 => ⟨S64, .f32⟩
  | 8 => ⟨S64, .f32⟩
  | 9 => ⟨S64, .f32⟩
  | 10 => ⟨S64, .f32⟩
  | 11 => ⟨S64, .f32⟩
  | 12 => ⟨S64, .f32⟩
  | 13 => ⟨S8, .f32⟩
  | 14 => ⟨S8, .f32⟩
  | 15 => ⟨S1024x1024, .f32⟩
  | 16 => ⟨S1024, .f32⟩
  | 17 => ⟨S8192x1024, .f32⟩
  | 18 => ⟨S8x8, .i32⟩
  | 19 => ⟨S8x8, .i32⟩
  | 20 => ⟨S_, .i32⟩
  | 21 => ⟨S8x8, .i32⟩
  | 22 => ⟨S8x8, .i32⟩
  | 23 => ⟨S8x8, .i1⟩
  | 24 => ⟨S8x8, .bf16⟩
  | 25 => ⟨S_, .bf16⟩
  | 26 => ⟨S64x64, .bf16⟩
  | 27 => ⟨S8x1x8x1, .bf16⟩
  | 28 => ⟨S1x64x1x64, .bf16⟩
  | 29 => ⟨S8x64x8x64, .bf16⟩
  | 30 => ⟨S8x64x8x64, .bf16⟩
  | 31 => ⟨S8x64x8x64, .bf16⟩
  | 32 => ⟨S512x512, .bf16⟩
  | 33 => ⟨S1x64, .f32⟩
  | 34 => ⟨S8x64, .f32⟩
  | 35 => ⟨S512, .f32⟩
  | 36 => ⟨S1x64, .f32⟩
  | 37 => ⟨S8x64, .f32⟩
  | 38 => ⟨S512, .f32⟩
  | 39 => ⟨S1x64, .f32⟩
  | 40 => ⟨S8x64, .f32⟩
  | 41 => ⟨S512, .f32⟩
  | 42 => ⟨S1536, .f32⟩
  | 43 => ⟨S1x1536, .f32⟩
  | 44 => ⟨S1x8x1536, .f32⟩
  | 45 => ⟨S8x1536, .f32⟩
  | 46 => ⟨S1x64, .f32⟩
  | 47 => ⟨S8x64, .f32⟩
  | 48 => ⟨S512, .f32⟩
  | 49 => ⟨S1x64, .f32⟩
  | 50 => ⟨S8x64, .f32⟩
  | 51 => ⟨S512, .f32⟩
  | 52 => ⟨S1x64, .f32⟩
  | 53 => ⟨S8x64, .f32⟩
  | 54 => ⟨S512, .f32⟩
  | 55 => ⟨S1536, .f32⟩
  | 56 => ⟨S1x1536, .f32⟩
  | 57 => ⟨S1x8x1536, .f32⟩
  | 58 => ⟨S8x1536, .f32⟩
  | 59 => ⟨S8, .f32⟩
  | 60 => ⟨S8, .f32⟩
  | 61 => ⟨S_, .f32⟩
  | 62 => ⟨S8, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S_, .f32⟩
  | 71 => ⟨S8, .f32⟩
  | 72 => ⟨S8, .f32⟩
  | 73 => ⟨S8, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S8, .f32⟩
  | 88 => ⟨S8x1, .f32⟩
  | 89 => ⟨S65, .f32⟩
  | 90 => ⟨S1x65, .f32⟩
  | 91 => ⟨S8x65, .f32⟩
  | 92 => ⟨S8x65, .f32⟩
  | 93 => ⟨S8x65, .f32⟩
  | 94 => ⟨S_, .f32⟩
  | 95 => ⟨S8x1, .f32⟩
  | 96 => ⟨S8x64, .f32⟩
  | 97 => ⟨S_, .f32⟩
  | 98 => ⟨S_, .f32⟩
  | 99 => ⟨S8x64, .f32⟩
  | 100 => ⟨S8x65, .f32⟩
  | 101 => ⟨S64, .i32⟩
  | 102 => ⟨S64x1, .i32⟩
  | 103 => ⟨S64, .i32⟩
  | 104 => ⟨S1x64, .i32⟩
  | 105 => ⟨S64x64, .i32⟩
  | 106 => ⟨S64x64, .i32⟩
  | 107 => ⟨S64x64, .i1⟩
  | 108 => ⟨S64x64, .i32⟩
  | 109 => ⟨S64x64, .i32⟩
  | 110 => ⟨S64x64, .i32⟩
  | 111 => ⟨S_, .i32⟩
  | 112 => ⟨S64x64, .i32⟩
  | 113 => ⟨S64x64, .i32⟩
  | 114 => ⟨S_, .i32⟩
  | 115 => ⟨S_, .i32⟩
  | 116 => ⟨S_, .i32⟩
  | 117 => ⟨S64x64, .i32⟩
  | 118 => ⟨S64x64, .i32⟩
  | 119 => ⟨S_, .i32⟩
  | 120 => ⟨S64x64, .i32⟩
  | 121 => ⟨S64x64, .i32⟩
  | 122 => ⟨S_, .i32⟩
  | 123 => ⟨S64x64, .i32⟩
  | 124 => ⟨S64x64, .i1⟩
  | 125 => ⟨S_, .i32⟩
  | 126 => ⟨S64x64, .i32⟩
  | 127 => ⟨S64x64, .i32⟩
  | _ => ⟨S4x2048x1024, .f32⟩

abbrev hbmTy0_1 (i : Nat) : BufTy := match i % 128 with
  | 0 => ⟨S64x64, .i32⟩
  | 1 => ⟨S64x64x1, .i32⟩
  | 2 => ⟨S8x64x64, .f32⟩
  | 3 => ⟨S1x64x64, .i1⟩
  | 4 => ⟨S8x1x1, .f32⟩
  | 5 => ⟨S8x64x64, .f32⟩
  | 6 => ⟨S8x64x64, .f32⟩
  | 7 => ⟨S_, .f32⟩
  | 8 => ⟨S8x64x64, .f32⟩
  | 9 => ⟨S8x64x64, .f32⟩
  | 10 => ⟨S8x1x1, .f32⟩
  | 11 => ⟨S8x64x64, .f32⟩
  | 12 => ⟨S8x64x64, .f32⟩
  | 13 => ⟨S_, .f32⟩
  | 14 => ⟨S_, .f32⟩
  | 15 => ⟨S8x64x64, .i1⟩
  | 16 => ⟨S8x64x64, .f32⟩
  | 17 => ⟨S8x64x64, .f32⟩
  | 18 => ⟨S1x64x64, .i1⟩
  | 19 => ⟨S8x1x1, .f32⟩
  | 20 => ⟨S8x64x64, .f32⟩
  | 21 => ⟨S8x64x64, .f32⟩
  | 22 => ⟨S8x1x1, .f32⟩
  | 23 => ⟨S8x64x64, .f32⟩
  | 24 => ⟨S8x64x64, .f32⟩
  | 25 => ⟨S_, .f32⟩
  | 26 => ⟨S_, .f32⟩
  | 27 => ⟨S8x64x64, .i1⟩
  | 28 => ⟨S8x64x64, .f32⟩
  | 29 => ⟨S8x64x64, .f32⟩
  | 30 => ⟨S8x1, .f32⟩
  | 31 => ⟨S8x64, .f32⟩
  | 32 => ⟨S8x64, .f32⟩
  | 33 => ⟨S8x64, .f32⟩
  | 34 => ⟨S64, .i32⟩
  | 35 => ⟨S_, .i32⟩
  | 36 => ⟨S64, .i32⟩
  | 37 => ⟨S64, .i32⟩
  | 38 => ⟨S_, .i32⟩
  | 39 => ⟨S64, .i32⟩
  | 40 => ⟨S64, .i1⟩
  | 41 => ⟨S_, .i32⟩
  | 42 => ⟨S64, .i32⟩
  | 43 => ⟨S64, .i32⟩
  | 44 => ⟨S64, .i32⟩
  | 45 => ⟨S64x1, .i32⟩
  | 46 => ⟨S8x64, .f32⟩
  | 47 => ⟨S8x1, .f32⟩
  | 48 => ⟨S8x64, .f32⟩
  | 49 => ⟨S8x64, .f32⟩
  | 50 => ⟨S_, .f32⟩
  | 51 => ⟨S8x64, .f32⟩
  | 52 => ⟨S8x64, .f32⟩
  | 53 => ⟨S8x1, .f32⟩
  | 54 => ⟨S8x64, .f32⟩
  | 55 => ⟨S8x64, .f32⟩
  | 56 => ⟨S8x1, .f32⟩
  | 57 => ⟨S8x64, .f32⟩
  | 58 => ⟨S8x64, .f32⟩
  | 59 => ⟨S8x1, .f32⟩
  | 60 => ⟨S8x64, .f32⟩
  | 61 => ⟨S8x64, .f32⟩
  | 62 => ⟨S64, .i32⟩
  | 63 => ⟨S_, .i32⟩
  | 64 => ⟨S64, .i32⟩
  | 65 => ⟨S64, .i32⟩
  | 66 => ⟨S_, .i32⟩
  | 67 => ⟨S64, .i32⟩
  | 68 => ⟨S64, .i1⟩
  | 69 => ⟨S_, .i32⟩
  | 70 => ⟨S64, .i32⟩
  | 71 => ⟨S64, .i32⟩
  | 72 => ⟨S64, .i32⟩
  | 73 => ⟨S64x1, .i32⟩
  | 74 => ⟨S8x64, .f32⟩
  | 75 => ⟨S8x1, .f32⟩
  | 76 => ⟨S8, .f32⟩
  | 77 => ⟨S8, .f32⟩
  | 78 => ⟨S8x1, .f32⟩
  | 79 => ⟨S8x1x64, .f32⟩
  | 80 => ⟨S8x64, .f32⟩
  | 81 => ⟨S8x1, .f32⟩
  | 82 => ⟨S8, .f32⟩
  | 83 => ⟨S8x1, .f32⟩
  | 84 => ⟨S8x1x64, .f32⟩
  | 85 => ⟨S8x64, .f32⟩
  | 86 => ⟨S8x64x1, .f32⟩
  | 87 => ⟨S8x64x1, .f32⟩
  | 88 => ⟨S8x64x1, .f32⟩
  | 89 => ⟨S8x64x1, .f32⟩
  | 90 => ⟨S8x64x1, .f32⟩
  | 91 => ⟨S8x64x1, .f32⟩
  | 92 => ⟨S8x64x6, .f32⟩
  | 93 => ⟨S_, .f32⟩
  | 94 => ⟨S8x64x122, .f32⟩
  | 95 => ⟨S8x64x128, .f32⟩
  | 96 => ⟨S8192x512, .f32⟩
  | 97 => ⟨S8192x512, .f32⟩
  | 98 => ⟨S8192x512, .f32⟩
  | 99 => ⟨S4x2048x512, .f32⟩
  | 100 => ⟨S4x2048x512, .f32⟩
  | 101 => ⟨S4x2048x512, .f32⟩
  | 102 => ⟨S4x8x64x64, .f32⟩
  | 103 => ⟨S4x8x64x64, .f32⟩
  | 104 => ⟨S4x2048x512, .f32⟩
  | 105 => ⟨S4x8x64x64, .f32⟩
  | 106 => ⟨S4x8x64x64, .f32⟩
  | 107 => ⟨S1x1024, .f32⟩
  | 108 => ⟨S1x8x1024, .f32⟩
  | 109 => ⟨S8x1024, .f32⟩
  | 110 => ⟨S8192x512, .f32⟩
  | 111 => ⟨S8192x1024, .f32⟩
  | 112 => ⟨S4x2048x1024, .f32⟩
  | 113 => ⟨S4x8x64x64, .f32⟩
  | 114 => ⟨S4x8x64x64, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S512x512, .bf16⟩
  | .local _ .vmem, ⟨6, _⟩ => ⟨S8x1536, .f32⟩
  | .local _ .vmem, ⟨7, _⟩ => ⟨S8x1536, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S1x64x512, .f32⟩
  | .local _ .vmem, ⟨15, _⟩ => ⟨S1x64x512, .f32⟩
  | .local _ .vmem, ⟨16, _⟩ => ⟨S1x64x512, .f32⟩
  | .local _ .vmem, ⟨17, _⟩ => ⟨S1x64x512, .f32⟩
  | .local _ .vmem, ⟨18, _⟩ => ⟨S1x64x512, .f32⟩
  | .local _ .vmem, ⟨19, _⟩ => ⟨S1x64x512, .f32⟩
  | .local _ .vmem, ⟨20, _⟩ => ⟨S8x64x64, .f32⟩
  | .local _ .vmem, ⟨21, _⟩ => ⟨S8x64x64, .f32⟩
  | .local _ .vmem, ⟨22, _⟩ => ⟨S8x64x128, .f32⟩
  | .local _ .vmem, ⟨23, _⟩ => ⟨S1x8x64x64, .f32⟩
  | .local _ .vmem, ⟨24, _⟩ => ⟨S1x8x64x64, .f32⟩
  | .local _ .vmem, ⟨25, _⟩ => ⟨S1x8x64x64, .f32⟩
  | .local _ .vmem, ⟨26, _⟩ => ⟨S1x8x64x64, .f32⟩
  | .local _ .vmem, ⟨27, _⟩ => ⟨S1x64x512, .f32⟩
  | .local _ .vmem, ⟨28, _⟩ => ⟨S1x64x512, .f32⟩
  | .local _ .vmem, ⟨29, _⟩ => ⟨S1x8x64x64, .f32⟩
  | .local _ .vmem, ⟨30, _⟩ => ⟨S1x8x64x64, .f32⟩
  | .local _ .vmem, ⟨31, _⟩ => ⟨S1x8x64x64, .f32⟩
  | .local _ .vmem, ⟨32, _⟩ => ⟨S1x8x64x64, .f32⟩
  | .local _ .vmem, ⟨33, _⟩ => ⟨S256x512, .f32⟩
  | .local _ .vmem, ⟨34, _⟩ => ⟨S256x512, .f32⟩
  | .local _ .vmem, ⟨35, _⟩ => ⟨S256x1024, .f32⟩
  | .local _ .vmem, ⟨36, _⟩ => ⟨S256x1024, .f32⟩
  | .local _ .vmem, ⟨37, _⟩ => ⟨S512x1024, .f32⟩
  | .local _ .vmem, ⟨38, _⟩ => ⟨S1024x1024, .f32⟩
  | .local _ .vmem, ⟨39, _⟩ => ⟨S8x1024, .f32⟩
  | .local _ .vmem, ⟨40, _⟩ => ⟨S256x1024, .f32⟩
  | .local _ .vmem, ⟨41, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_0 : Ref sig .tc := ⟨.hbm, 61, rfl⟩
abbrev main_v37 : Ref sig .tc := ⟨.hbm, 62, rfl⟩
abbrev main_v38 : Ref sig .tc := ⟨.hbm, 63, rfl⟩
abbrev main_cst_1 : Ref sig .tc := ⟨.hbm, 64, rfl⟩
abbrev main_v39 : Ref sig .tc := ⟨.hbm, 65, rfl⟩
abbrev main_v40 : Ref sig .tc := ⟨.hbm, 66, rfl⟩
abbrev main_cst_2 : Ref sig .tc := ⟨.hbm, 67, rfl⟩
abbrev main_v41 : Ref sig .tc := ⟨.hbm, 68, rfl⟩
abbrev main_v42 : Ref sig .tc := ⟨.hbm, 69, rfl⟩
abbrev main_cst_3 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_cst_5 : Ref sig .tc := ⟨.hbm, 78, rfl⟩
abbrev main_v49 : Ref sig .tc := ⟨.hbm, 79, rfl⟩
abbrev main_v50 : Ref sig .tc := ⟨.hbm, 80, rfl⟩
abbrev main_cst_6 : Ref sig .tc := ⟨.hbm, 81, rfl⟩
abbrev main_v51 : Ref sig .tc := ⟨.hbm, 82, rfl⟩
abbrev main_v52 : Ref sig .tc := ⟨.hbm, 83, rfl⟩
abbrev main_cst_7 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_8 : Ref sig .tc := ⟨.hbm, 94, rfl⟩
abbrev main_v62 : Ref sig .tc := ⟨.hbm, 95, rfl⟩
abbrev main_v63 : Ref sig .tc := ⟨.hbm, 96, rfl⟩
abbrev main_call1_call0_cst : Ref sig .tc := ⟨.hbm, 97, rfl⟩
abbrev main_call1_call0_v0 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_9 : Ref sig .tc := ⟨.hbm, 111, rfl⟩
abbrev main_v76 : Ref sig .tc := ⟨.hbm, 112, rfl⟩
abbrev main_v77 : Ref sig .tc := ⟨.hbm, 113, rfl⟩
abbrev main_c_10 : Ref sig .tc := ⟨.hbm, 114, rfl⟩
abbrev main_c_11 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_v78 : Ref sig .tc := ⟨.hbm, 121, rfl⟩
abbrev main_c_12 : Ref sig .tc := ⟨.hbm, 122, rfl⟩
abbrev main_v79 : Ref sig .tc := ⟨.hbm, 123, rfl⟩
abbrev main_v80 : Ref sig .tc := ⟨.hbm, 124, rfl⟩
abbrev main_c_13 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_14 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_15 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_16 : Ref sig .tc := ⟨.hbm, 153, rfl⟩
abbrev main_call4_v0 : Ref sig .tc := ⟨.hbm, 154, rfl⟩
abbrev main_call4_v1 : Ref sig .tc := ⟨.hbm, 155, rfl⟩
abbrev main_call4_v2 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_c_17 : Ref sig .tc := ⟨.hbm, 163, rfl⟩
abbrev main_v109 : Ref sig .tc := ⟨.hbm, 164, rfl⟩
abbrev main_v110 : Ref sig .tc := ⟨.hbm, 165, rfl⟩
abbrev main_c_18 : Ref sig .tc := ⟨.hbm, 166, rfl⟩
abbrev main_v111 : Ref sig .tc := ⟨.hbm, 167, rfl⟩
abbrev main_v112 : Ref sig .tc := ⟨.hbm, 168, rfl⟩
abbrev main_c_19 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_cst_20 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_c_21 : Ref sig .tc := ⟨.hbm, 191, rfl⟩
abbrev main_v133 : Ref sig .tc := ⟨.hbm, 192, rfl⟩
abbrev main_v134 : Ref sig .tc := ⟨.hbm, 193, rfl⟩
abbrev main_c_22 : Ref sig .tc := ⟨.hbm, 194, rfl⟩
abbrev main_v135 : Ref sig .tc := ⟨.hbm, 195, rfl⟩
abbrev main_v136 : Ref sig .tc := ⟨.hbm, 196, rfl⟩
abbrev main_c_23 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_cst_24 : Ref sig .tc := ⟨.hbm, 221, rfl⟩
abbrev main_v160 : Ref sig .tc := ⟨.hbm, 222, rfl⟩
abbrev main_v161 : Ref sig .tc := ⟨.hbm, 223, rfl⟩
abbrev main_v162_0 : Ref sig .tc := ⟨.hbm, 224, rfl⟩
abbrev main_v162_1 : Ref sig .tc := ⟨.hbm, 225, rfl⟩
abbrev main_v162_2 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168_0 : Ref sig .tc := ⟨.hbm, 232, rfl⟩
abbrev main_v168_1 : Ref sig .tc := ⟨.hbm, 233, rfl⟩
abbrev main_v168_2 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg10_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg5_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24
abbrev cc1_sem7_0 : DmaSem sig := 25
abbrev cc1_sem7_1 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31
abbrev cc1_sem10_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem3_0 : DmaSem sig := 38
abbrev cc2_sem4_0 : DmaSem sig := 39
abbrev cc2_sem5_0 : DmaSem sig := 40
abbrev cc2_sem5_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S8x64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S8x64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S8x64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x8x64x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x8x64x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x64x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x8x64x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x8x64x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S4x2048x1024 : Shape := ⟨3, ![4, 2048, 1024]⟩
abbrev S4x8x64x64 : Shape := ⟨4, ![4, 8, 64, 64]⟩
abbrev S1024x512 : Shape := ⟨2, ![1024, 512]⟩
abbrev S512x1024 : Shape := ⟨2, ![512, 1024]⟩
abbrev S64 : Shape := ⟨1, ![64]⟩
abbrev S8 : Shape := ⟨1, ![8]⟩
abbrev S1024x1024 : Shape := ⟨2, ![1024, 1024]⟩
abbrev S1024 : Shape := ⟨1, ![1024]⟩
abbrev S4x2048x512 : Shape := ⟨3, ![4, 2048, 512]⟩
abbrev S4x2048x8x64 : Shape := ⟨4, ![4, 2048, 8, 64]⟩
abbrev S4x8x2048x64 : Shape := ⟨4, ![4, 8, 2048, 64]⟩
abbrev S_ : Shape := ⟨0, ![]⟩
abbrev S4x8x2048 : Shape := ⟨3, ![4, 8, 2048]⟩
abbrev S4x8x2048x1 : Shape := ⟨4, ![4, 8, 2048, 1]⟩
abbrev S1x1x1x64 : Shape := ⟨4, ![1, 1, 1, 64]⟩
abbrev S1x8x1x1 : Shape := ⟨4, ![1, 8, 1, 1]⟩
abbrev S2048x4x8x64 : Shape := ⟨4, ![2048, 4, 8, 64]⟩
abbrev S1x4x8x64 : Shape := ⟨4, ![1, 4, 8, 64]⟩
abbrev S4x8x64 : Shape := ⟨3, ![4, 8, 64]⟩
abbrev S4x8 : Shape := ⟨2, ![4, 8]⟩
abbrev S4x8x1 : Shape := ⟨3, ![4, 8, 1]⟩
abbrev S4x8x64x1 : Shape := ⟨4, ![4, 8, 64, 1]⟩
abbrev S4x8x1x64 : Shape := ⟨4, ![4, 8, 1, 64]⟩
abbrev S1x1x1024 : Shape := ⟨3, ![1, 1, 1024]⟩

abbrev nBuf : Space → Nat
  | .hbm => 228
  | .vmem => 0
  | .smem => 0
  | _ => 0

abbrev hbmTy0_0 (i : Nat) : BufTy := match i % 128 with
  | 0 => ⟨S4x2048x1024, .f32⟩
  | 1 => ⟨S4x8x64x64, .f32⟩
  | 2 => ⟨S4x8x64x64, .f32⟩
  | 3 => ⟨S1024x512, .f32⟩
  | 4 => ⟨S1024x512, .f32⟩
  | 5 => ⟨S1024x512, .f32⟩
  | 6 => ⟨S512x1024, .f32⟩
  | 7 => ⟨S64, .f32⟩
  | 8 => ⟨S64, .f32⟩
  | 9 => ⟨S64, .f32⟩
  | 10 => ⟨S64, .f32⟩
  | 11 => ⟨S64, .f32⟩
  | 12 => ⟨S64, .f32⟩
  | 13 => ⟨S8, .f32⟩
  | 14 => ⟨S8, .f32⟩
  | 15 => ⟨S1024x1024, .f32⟩
  | 16 => ⟨S1024, .f32⟩
  | 17 => ⟨S4x2048x512, .f32⟩
  | 18 => ⟨S4x2048x8x64, .f32⟩
  | 19 => ⟨S4x8x2048x64, .f32⟩
  | 20 => ⟨S4x2048x512, .f32⟩
  | 21 => ⟨S4x2048x8x64, .f32⟩
  | 22 => ⟨S4x8x2048x64, .f32⟩
  | 23 => ⟨S4x2048x512, .f32⟩
  | 24 => ⟨S4x2048x8x64, .f32⟩
  | 25 => ⟨S4x8x2048x64, .f32⟩
  | 26 => ⟨S_, .f32⟩
  | 27 => ⟨S4x8x2048, .f32⟩
  | 28 => ⟨S4x8x2048x1, .f32⟩
  | 29 => ⟨S_, .f32⟩
  | 30 => ⟨S4x8x2048x1, .f32⟩
  | 31 => ⟨S4x8x2048x1, .f32⟩
  | 32 => ⟨S4x8x2048x64, .f32⟩
  | 33 => ⟨S4x8x2048x64, .f32⟩
  | 34 => ⟨S4x8x2048x64, .f32⟩
  | 35 => ⟨S_, .f32⟩
  | 36 => ⟨S4x8x2048, .f32⟩
  | 37 => ⟨S4x8x2048x1, .f32⟩
  | 38 => ⟨S_, .f32⟩
  | 39 => ⟨S4x8x2048x1, .f32⟩
  | 40 => ⟨S4x8x2048x1, .f32⟩
  | 41 => ⟨S4x8x2048x64, .f32⟩
  | 42 => ⟨S4x8x2048x64, .f32⟩
  | 43 => ⟨S_, .f32⟩
  | 44 => ⟨S4x8x2048x1, .f32⟩
  | 45 => ⟨S4x8x2048x1, .f32⟩
  | 46 => ⟨S4x8x2048x1, .f32⟩
  | 47 => ⟨S4x8x2048x64, .f32⟩
  | 48 => ⟨S4x8x2048x64, .f32⟩
  | 49 => ⟨S1x1x1x64, .f32⟩
  | 50 => ⟨S4x8x2048x64, .f32⟩
  | 51 => ⟨S4x8x2048x64, .f32⟩
  | 52 => ⟨S1x1x1x64, .f32⟩
  | 53 => ⟨S4x8x2048x64, .f32⟩
  | 54 => ⟨S4x8x2048x64, .f32⟩
  | 55 => ⟨S_, .f32⟩
  | 56 => ⟨S4x8x2048, .f32⟩
  | 57 => ⟨S4x8x2048x1, .f32⟩
  | 58 => ⟨S_, .f32⟩
  | 59 => ⟨S4x8x2048x1, .f32⟩
  | 60 => ⟨S4x8x2048x1, .f32⟩
  | 61 => ⟨S4x8x2048x64, .f32⟩
  | 62 => ⟨S4x8x2048x64, .f32⟩
  | 63 => ⟨S4x8x2048x64, .f32⟩
  | 64 => ⟨S_, .f32⟩
  | 65 => ⟨S4x8x2048, .f32⟩
  | 66 => ⟨S4x8x2048x1, .f32⟩
  | 67 => ⟨S_, .f32⟩
  | 68 => ⟨S4x8x2048x1, .f32⟩
  | 69 => ⟨S4x8x2048x1, .f32⟩
  | 70 => ⟨S4x8x2048x64, .f32⟩
  | 71 => ⟨S4x8x2048x64, .f32⟩
  | 72 => ⟨S_, .f32⟩
  | 73 => ⟨S4x8x2048x1, .f32⟩
  | 74 => ⟨S4x8x2048x1, .f32⟩
  | 75 => ⟨S4x8x2048x1, .f32⟩
  | 76 => ⟨S4x8x2048x64, .f32⟩
  | 77 => ⟨S4x8x2048x64, .f32⟩
  | 78 => ⟨S1x1x1x64, .f32⟩
  | 79 => ⟨S4x8x2048x64, .f32⟩
  | 80 => ⟨S4x8x2048x64, .f32⟩
  | 81 => ⟨S1x1x1x64, .f32⟩
  | 82 => ⟨S4x8x2048x64, .f32⟩
  | 83 => ⟨S4x8x2048x64, .f32⟩
  | 84 => ⟨S_, .f32⟩
  | 85 => ⟨S4x8x2048, .f32⟩
  | 86 => ⟨S4x8x2048x1, .f32⟩
  | 87 => ⟨S_, .f32⟩
  | 88 => ⟨S4x8x2048x1, .f32⟩
  | 89 => ⟨S4x8x2048x1, .f32⟩
  | 90 => ⟨S4x8x2048x64, .f32⟩
  | 91 => ⟨S4x8x2048x64, .f32⟩
  | 92 => ⟨S4x8x2048x64, .f32⟩
  | 93 => ⟨S_, .f32⟩
  | 94 => ⟨S4x8x2048, .f32⟩
  | 95 => ⟨S4x8x2048x1, .f32⟩
  | 96 => ⟨S_, .f32⟩
  | 97 => ⟨S4x8x2048x1, .f32⟩
  | 98 => ⟨S4x8x2048x1, .f32⟩
  | 99 => ⟨S4x8x2048x64, .f32⟩
  | 100 => ⟨S4x8x2048x64, .f32⟩
  | 101 => ⟨S_, .f32⟩
  | 102 => ⟨S4x8x2048x1, .f32⟩
  | 103 => ⟨S4x8x2048x1, .f32⟩
  | 104 => ⟨S4x8x2048x1, .f32⟩
  | 105 => ⟨S4x8x2048x64, .f32⟩
  | 106 => ⟨S4x8x2048x64, .f32⟩
  | 107 => ⟨S1x1x1x64, .f32⟩
  | 108 => ⟨S4x8x2048x64, .f32⟩
  | 109 => ⟨S4x8x2048x64, .f32⟩
  | 110 => ⟨S1x1x1x64, .f32⟩
  | 111 => ⟨S4x8x2048x64, .f32⟩
  | 112 => ⟨S4x8x2048x64, .f32⟩
  | 113 => ⟨S8, .f32⟩
  | 114 => ⟨S8, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S_, .f32⟩
  | 122 => ⟨S8, .f32⟩
  | 123 => ⟨S8, .f32⟩
  | 124 => ⟨S_, .f32⟩
  | 125 => ⟨S8, .f32⟩
  | 126 => ⟨S8, .f32⟩
  | 127 => ⟨S1x8x1x1, .f32⟩
  | _ => ⟨S4x2048x1024, .f32⟩

abbrev hbmTy0_1 (i : Nat) : BufTy := match i % 128 with
  | 0 => ⟨S8, .f32⟩
  | 1 => ⟨S8, .f32⟩
  | 2 => ⟨S_, .f32⟩
  | 3 => ⟨S8, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S1x8x1x1, .f32⟩
  | 15 => ⟨S2048x4x8x64, .f32⟩
  | 16 => ⟨S2048x4x8x64, .f32⟩
  | 17 => ⟨S2048x4x8x64, .f32⟩
  | 18 => ⟨S_, .f32⟩
  | 19 => ⟨S2048x4x8x64, .f32⟩
  | 20 => ⟨S_, .i32⟩
  | 21 => ⟨S2048x4x8x64, .f32⟩
  | 22 => ⟨S2048x4x8x64, .f32⟩
  | 23 => ⟨S2048x4x8x64, .f32⟩
  | 24 => ⟨S1x8x1x1, .f32⟩
  | 25 => ⟨S1x8x1x1, .f32⟩
  | 26 => ⟨S_, .i32⟩
  | 27 => ⟨S4x8x64x64, .f32⟩
  | 28 => ⟨S4x8x64x64, .f32⟩
  | 29 => ⟨S2048x4x8x64, .f32⟩
  | 30 => ⟨S_, .i32⟩
  | 31 => ⟨S_, .i1⟩
  | 32 => ⟨S_, .i32⟩
  | 33 => ⟨S_, .i32⟩
  | 34 => ⟨S_, .i32⟩
  | 35 => ⟨S1x4x8x64, .f32⟩
  | 36 => ⟨S4x8x64, .f32⟩
  | 37 => ⟨S_, .i32⟩
  | 38 => ⟨S_, .i32⟩
  | 39 => ⟨S_, .i32⟩
  | 40 => ⟨S1x4x8x64, .f32⟩
  | 41 => ⟨S4x8x64, .f32⟩
  | 42 => ⟨S_, .i32⟩
  | 43 => ⟨S_, .i32⟩
  | 44 => ⟨S_, .i32⟩
  | 45 => ⟨S1x4x8x64, .f32⟩
  | 46 => ⟨S4x8x64, .f32⟩
  | 47 => ⟨S4x8x64, .f32⟩
  | 48 => ⟨S4x8x64, .f32⟩
  | 49 => ⟨S_, .f32⟩
  | 50 => ⟨S4x8, .f32⟩
  | 51 => ⟨S4x8x1, .f32⟩
  | 52 => ⟨S4x8x1, .f32⟩
  | 53 => ⟨S_, .f32⟩
  | 54 => ⟨S4x8x1, .f32⟩
  | 55 => ⟨S4x8x1, .f32⟩
  | 56 => ⟨S4x8x64, .f32⟩
  | 57 => ⟨S4x8x64, .f32⟩
  | 58 => ⟨S4x8x64, .f32⟩
  | 59 => ⟨S4x8x64, .f32⟩
  | 60 => ⟨S4x8x64x1, .f32⟩
  | 61 => ⟨S4x8x1x64, .f32⟩
  | 62 => ⟨S4x8x64x64, .f32⟩
  | 63 => ⟨S4x8x64x64, .f32⟩
  | 64 => ⟨S4x8x64x64, .f32⟩
  | 65 => ⟨S4x8x64x1, .f32⟩
  | 66 => ⟨S4x8x1x64, .f32⟩
  | 67 => ⟨S4x8x64x64, .f32⟩
  | 68 => ⟨S4x8x64x64, .f32⟩
  | 69 => ⟨S4x8x64x64, .f32⟩
  | 70 => ⟨S4x8x64x64, .f32⟩
  | 71 => ⟨S4x8x64x64, .f32⟩
  | 72 => ⟨S4x8x64x64, .f32⟩
  | 73 => ⟨S4x8x64x64, .f32⟩
  | 74 => ⟨S4x8x64x64, .f32⟩
  | 75 => ⟨S4x8x64x64, .f32⟩
  | 76 => ⟨S4x8x64x64, .f32⟩
  | 77 => ⟨S1x4x8x64, .f32⟩
  | 78 => ⟨S_, .i32⟩
  | 79 => ⟨S_, .i32⟩
  | 80 => ⟨S_, .i32⟩
  | 81 => ⟨S2048x4x8x64, .f32⟩
  | 82 => ⟨S_, .i32⟩
  | 83 => ⟨S_, .i32⟩
  | 84 => ⟨S4x2048x8x64, .f32⟩
  | 85 => ⟨S4x2048x512, .f32⟩
  | 86 => ⟨S4x2048x1024, .f32⟩
  | 87 => ⟨S4x2048x1024, .f32⟩
  | 88 => ⟨S1x1x1024, .f32⟩
  | 89 => ⟨S4x2048x1024, .f32⟩
  | 90 => ⟨S4x2048x1024, .f32⟩
  | 91 => ⟨S4x2048x1024, .f32⟩
  | 92 => ⟨S4x2048x1024, .f32⟩
  | 93 => ⟨S_, .f32⟩
  | 94 => ⟨S4x2048x1024, .f32⟩
  | 95 => ⟨S4x2048x1024, .f32⟩
  | 96 => ⟨S_, .f32⟩
  | 97 => ⟨S4x2048x1024, .f32⟩
  | 98 => ⟨S4x2048x1024, .f32⟩
  | 99 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_cst_12 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_14 : Ref sig .tc := ⟨.hbm, 115, rfl⟩
abbrev main_v83 : Ref sig .tc := ⟨.hbm, 116, rfl⟩
abbrev main_v84 : Ref sig .tc := ⟨.hbm, 117, rfl⟩
abbrev main_cst_15 : Ref sig .tc := ⟨.hbm, 118, rfl⟩
abbrev main_v85 : Ref sig .tc := ⟨.hbm, 119, rfl⟩
abbrev main_v86 : Ref sig .tc := ⟨.hbm, 120, rfl⟩
abbrev main_cst_16 : Ref sig .tc := ⟨.hbm, 121, rfl⟩
abbrev main_v87 : Ref sig .tc := ⟨.hbm, 122, rfl⟩
abbrev main_v88 : Ref sig .tc := ⟨.hbm, 123, rfl⟩
abbrev main_cst_17 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_18 : Ref sig .tc := ⟨.hbm, 130, rfl⟩
abbrev main_v94 : Ref sig .tc := ⟨.hbm, 131, rfl⟩
abbrev main_v95 : Ref sig .tc := ⟨.hbm, 132, rfl⟩
abbrev main_cst_19 : Ref sig .tc := ⟨.hbm, 133, rfl⟩
abbrev main_v96 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_cst_21 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_22 : Ref sig .tc := ⟨.hbm, 146, rfl⟩
abbrev main_v106 : Ref sig .tc := ⟨.hbm, 147, rfl⟩
abbrev main_c : Ref sig .tc := ⟨.hbm, 148, rfl⟩
abbrev main_v107_0 : Ref sig .tc := ⟨.hbm, 149, rfl⟩
abbrev main_v107_1 : Ref sig .tc := ⟨.hbm, 150, rfl⟩
abbrev main_v107_2 : Ref sig .tc := ⟨.hbm, 151, rfl⟩
abbrev main_v107_3 : Ref sig .tc := ⟨.hbm, 152, rfl⟩
abbrev main_v107_4 : Ref sig .tc := ⟨.hbm, 153, rfl⟩
abbrev main_v107_5 : Ref sig .tc := ⟨.hbm, 154, rfl⟩
abbrev main_v107_6 : Ref sig .tc := ⟨.hbm, 155, rfl⟩
abbrev main_v107_7 : Ref sig .tc := ⟨.hbm, 156, rfl⟩
abbrev main_v107_8 : Ref sig .tc := ⟨.hbm, 157, rfl⟩
abbrev main_while0c_c_33 : Ref sig .tc := ⟨.hbm, 158, rfl⟩
abbrev main_while0c_v122 : Ref sig .tc := ⟨.hbm, 159, rfl⟩
abbrev main_while0b_call0_c : Ref sig .tc := ⟨.hbm, 160, rfl⟩
abbrev main_while0b_call0_c_0 : Ref sig .tc := ⟨.hbm, 161, rfl⟩
abbrev main_while0b_call0_c_1 : Ref sig .tc := ⟨.hbm, 162, rfl⟩
abbrev main_while0b_call0_v0 : Ref sig .tc := ⟨.hbm, 163, rfl⟩
abbrev main_while0b_v122 : Ref sig .tc := ⟨.hbm, 164, rfl⟩
abbrev main_while0b_call1_c : Ref sig .tc := ⟨.hbm, 165, rfl⟩
abbrev main_while0b_call1_c_0 : Ref sig .tc := ⟨.hbm, 166, rfl⟩
abbrev main_while0b_call1_c_1 : Ref sig .tc := ⟨.hbm, 167, rfl⟩
abbrev main_while0b_call1_v0 : Ref sig .tc := ⟨.hbm, 168, rfl⟩
abbrev main_while0b_v123 : Ref sig .tc := ⟨.hbm, 169, rfl⟩
abbrev main_while0b_call2_c : Ref sig .tc := ⟨.hbm, 170, rfl⟩
abbrev main_while0b_call2_c_0 : Ref sig .tc := ⟨.hbm, 171, rfl⟩
abbrev main_while0b_call2_c_1 : Ref sig .tc := ⟨.hbm, 172, rfl⟩
abbrev main_while0b_call2_v0 : Ref sig .tc := ⟨.hbm, 173, rfl⟩
abbrev main_while0b_v124 : Ref sig .tc := ⟨.hbm, 174, rfl⟩
abbrev main_while0b_v125 : Ref sig .tc := ⟨.hbm, 175, rfl⟩
abbrev main_while0b_call3_v0 : Ref sig .tc := ⟨.hbm, 176, rfl⟩
abbrev main_while0b_call3_cst : Ref sig .tc := ⟨.hbm, 177, rfl⟩
abbrev main_while0b_call3_v1 : Ref sig .tc := ⟨.hbm, 178, rfl⟩
abbrev main_while0b_call3_v2 : Ref sig .tc := ⟨.hbm, 179, rfl⟩
abbrev main_while0b_v126 : Ref sig .tc := ⟨.hbm, 180, rfl⟩
abbrev main_while0b_cst_33 : Ref sig .tc := ⟨.hbm, 181, rfl⟩
abbrev main_while0b_v127 : Ref sig .tc := ⟨.hbm, 182, rfl⟩
abbrev main_while0b_v128 : Ref sig .tc := ⟨.hbm, 183, rfl⟩
abbrev main_while0b_v129 : Ref sig .tc := ⟨.hbm, 184, rfl⟩
abbrev main_while0b_v130 : Ref sig .tc := ⟨.hbm, 185, rfl⟩
abbrev main_while0b_v131 : Ref sig .tc := ⟨.hbm, 186, rfl⟩
abbrev main_while0b_v132 : Ref sig .tc := ⟨.hbm, 187, rfl⟩
abbrev main_while0b_v133 : Ref sig .tc := ⟨.hbm, 188, rfl⟩
abbrev main_while0b_v134 : Ref sig .tc := ⟨.hbm, 189, rfl⟩
abbrev main_while0b_v135 : Ref sig .tc := ⟨.hbm, 190, rfl⟩
abbrev main_while0b_v136 : Ref sig .tc := ⟨.hbm, 191, rfl⟩
abbrev main_while0b_v137 : Ref sig .tc := ⟨.hbm, 192, rfl⟩
abbrev main_while0b_v138 : Ref sig .tc := ⟨.hbm, 193, rfl⟩
abbrev main_while0b_v139 : Ref sig .tc := ⟨.hbm, 194, rfl⟩
abbrev main_while0b_v140 : Ref sig .tc := ⟨.hbm, 195, rfl⟩
abbrev main_while0b_v141 : Ref sig .tc := ⟨.hbm, 196, rfl⟩
abbrev main_while0b_v142 : Ref sig .tc := ⟨.hbm, 197, rfl⟩
abbrev main_while0b_v143 : Ref sig .tc := ⟨.hbm, 198, rfl⟩
abbrev main_while0b_v144 : Ref sig .tc := ⟨.hbm, 199, rfl⟩
abbrev main_while0b_v145 : Ref sig .tc := ⟨.hbm, 200, rfl⟩
abbrev main_while0b_v146 : Ref sig .tc := ⟨.hbm, 201, rfl⟩
abbrev main_while0b_v147 : Ref sig .tc := ⟨.hbm, 202, rfl⟩
abbrev main_while0b_v148 : Ref sig .tc := ⟨.hbm, 203, rfl⟩
abbrev main_while0b_v149 : Ref sig .tc := ⟨.hbm, 204, rfl⟩
abbrev main_while0b_call4_v0 : Ref sig .tc := ⟨.hbm, 205, rfl⟩
abbrev main_while0b_call4_c : Ref sig .tc := ⟨.hbm, 206, rfl⟩
abbrev main_while0b_call4_c_0 : Ref sig .tc := ⟨.hbm, 207, rfl⟩
abbrev main_while0b_call4_c_1 : Ref sig .tc := ⟨.hbm, 208, rfl⟩
abbrev main_while0b_v150 : Ref sig .tc := ⟨.hbm, 209, rfl⟩
abbrev main_while0b_c_34 : Ref sig .tc := ⟨.hbm, 210, rfl⟩
abbrev main_while0b_v151 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩
abbrev main_v116 : Ref sig .tc := ⟨.hbm, 220, rfl⟩
abbrev main_cst_23 : Ref sig .tc := ⟨.hbm, 221, rfl⟩
abbrev main_v117 : Ref sig .tc := ⟨.hbm, 222, rfl⟩
abbrev main_v118 : Ref sig .tc := ⟨.hbm, 223, rfl⟩
abbrev main_cst_24 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩

abbrev nD : Nat := 1
abbrev τ : Topo := Topo.v7x

variable {F : FTy → Type} [FloatOps F]

abbrev main_while0_count : Scf.Loop 32 := ⟨0#32, 2048#32, 1#32⟩
-- ==== Proof.Delta.Math.lean ====
/- The delta rule with momentum over the reals, for one head: the recurrence step by step, what the state is after any
   number of steps in closed form, and the blocked evaluation of 64 steps (a unit lower triangular system solved by
   repeated squaring), which gives the same predictions, outputs and state. No program occurs here. -/
module

public import Mathlib.Data.Matrix.Mul
public import Mathlib.Data.Real.Basic
public import Mathlib.Algebra.BigOperators.Intervals
public import Mathlib.Algebra.BigOperators.Fin
public import Mathlib.Tactic.Ring
public import Mathlib.Tactic.LinearCombination
public import Mathlib.Tactic.NoncommRing

@[expose] public section

noncomputable section

namespace Delta

open Finset Matrix

/-- A vector of one head. -/
abbrev Vc := Fin 64 → ℝ
/-- A 64 × 64 matrix. -/
abbrev Mt := Matrix (Fin 64) (Fin 64) ℝ

/-- The state of one head: the memory and the momentum buffer, rows by value coordinate, columns by key coordinate. -/
abbrev St := Mt × Mt

/-- What the memory predicts for a key. -/
def predOf (M : Mt) (k : Vc) : Vc := fun d => ∑ j, M d j * k j

/-- One step of the recurrence: the momentum buffer takes up the surprise, the memory forgets what it predicted and
    moves against the buffer. -/
def step (lr mom : ℝ) (s : St) (k v : Vc) : St :=
  let b : Mt := Matrix.of fun d j => mom * s.2 d j + (predOf s.1 k d - v d) * k j
  (Matrix.of fun d j => s.1 d j - predOf s.1 k d * k j - lr * b d j, b)

/-- The state after `n` steps over the keys `k` and the values `v`. -/
def run (lr mom : ℝ) (k v : ℕ → Vc) (s : St) : ℕ → St
  | 0 => s
  | n + 1 => step lr mom (run lr mom k v s n) (k n) (v n)

/-- Running on from step `t` is running the shifted keys and values from the state at `t`. -/
theorem run_add (lr mom : ℝ) (k v : ℕ → Vc) (s : St) (t n : ℕ) :
    run lr mom k v s (t + n) = run lr mom (fun i => k (t + i)) (fun i => v (t + i)) (run lr mom k v s t) n := by
  induction n with
  | zero => rfl
  | succ n ih => rw [← Nat.add_assoc]; simp only [run]; rw [ih]

/-- Only the first `n` keys and values matter for the state after `n` steps. -/
theorem run_congr (lr mom : ℝ) {k k' v v' : ℕ → Vc} (s : St) (n : ℕ) (hk : ∀ i < n, k i = k' i) (hv : ∀ i < n, v i = v' i) :
    run lr mom k v s n = run lr mom k' v' s n := by
  induction n with
  | zero => rfl
  | succ n ih =>
    simp only [run]
    rw [ih (fun i h => hk i (by omega)) (fun i h => hv i (by omega)), hk n (by omega), hv n (by omega)]

/-- The geometric sum `1 + mom + … + mom^(n-1)`. -/
def geo (mom : ℝ) (n : ℕ) : ℝ := ∑ j ∈ range n, mom ^ j

theorem geo_succ (mom : ℝ) (n : ℕ) : geo mom (n + 1) = geo mom n + mom ^ n := sum_range_succ _ _

/-- The weight of a later memory on an earlier value. -/
def wQ (lr mom : ℝ) (i r : ℕ) : ℝ := lr * mom * geo mom (i - 1 - r) + lr
/-- The weight of a later memory on an earlier prediction. -/
def wP (lr mom : ℝ) (i r : ℕ) : ℝ := lr * mom * geo mom (i - 1 - r) + 1 + lr

section Closed

variable (lr mom : ℝ) (k v : ℕ → Vc) (s : St)

/-- The prediction at step `i`. -/
def u (i : ℕ) : Vc := predOf (run lr mom k v s i).1 (k i)

/-- The momentum buffer after `i` steps, in closed form. -/
theorem run_snd (i : ℕ) (d j : Fin 64) : (run lr mom k v s i).2 d j
    = mom ^ i * s.2 d j + ∑ r ∈ range i, mom ^ (i - 1 - r) * (u lr mom k v s r d - v r d) * k r j := by
  induction i with
  | zero => simp [run]
  | succ i ih =>
    have h : (run lr mom k v s (i + 1)).2 d j
        = mom * (run lr mom k v s i).2 d j + (u lr mom k v s i d - v i d) * k i j := rfl
    rw [h, ih, sum_range_succ, mul_add, mul_sum]
    have e : ∀ r ∈ range i, mom * (mom ^ (i - 1 - r) * (u lr mom k v s r d - v r d) * k r j)
        = mom ^ (i + 1 - 1 - r) * (u lr mom k v s r d - v r d) * k r j := by
      intro r hr
      have hr' := mem_range.1 hr
      have : i + 1 - 1 - r = (i - 1 - r) + 1 := by omega
      rw [this, pow_succ]; ring
    rw [sum_congr rfl e]
    simp only [Nat.add_sub_cancel, Nat.sub_self, pow_zero, pow_succ]
    ring

/-- The memory after `i` steps, in closed form. -/
theorem run_fst (i : ℕ) (d j : Fin 64) : (run lr mom k v s i).1 d j
    = s.1 d j - lr * mom * geo mom i * s.2 d j
      - ∑ r ∈ range i, wP lr mom i r * u lr mom k v s r d * k r j
      + ∑ r ∈ range i, wQ lr mom i r * v r d * k r j := by
  induction i with
  | zero => simp [run, geo]
  | succ i ih =>
    have h : (run lr mom k v s (i + 1)).1 d j
        = (run lr mom k v s i).1 d j - u lr mom k v s i d * k i j - lr * (run lr mom k v s (i + 1)).2 d j := rfl
    rw [h, ih, run_snd, sum_range_succ, sum_range_succ, sum_range_succ]
    have eP : ∀ r ∈ range i, wP lr mom (i + 1) r * u lr mom k v s r d * k r j
        = wP lr mom i r * u lr mom k v s r d * k r j + lr * (mom ^ (i + 1 - 1 - r) * u lr mom k v s r d * k r j) := by
      intro r hr
      have hr' := mem_range.1 hr
      have e1 : i + 1 - 1 - r = (i - 1 - r) + 1 := by omega
      simp only [wP, e1, geo_succ, pow_succ]; ring
    have eQ : ∀ r ∈ range i, wQ lr mom (i + 1) r * v r d * k r j
        = wQ lr mom i r * v r d * k r j + lr * (mom ^ (i + 1 - 1 - r) * v r d * k r j) := by
      intro r hr
      have hr' := mem_range.1 hr
      have e1 : i + 1 - 1 - r = (i - 1 - r) + 1 := by omega
      simp only [wQ, e1, geo_succ, pow_succ]; ring
    have eB : ∀ r ∈ range i, mom ^ (i + 1 - 1 - r) * (u lr mom k v s r d - v r d) * k r j
        = mom ^ (i + 1 - 1 - r) * u lr mom k v s r d * k r j - mom ^ (i + 1 - 1 - r) * v r d * k r j := fun r _ => by ring
    rw [sum_congr rfl eP, sum_congr rfl eQ, sum_congr rfl eB, sum_add_distrib, sum_add_distrib, sum_sub_distrib,
      ← mul_sum, ← mul_sum]
    have z : i + 1 - 1 - i = 0 := by omega
    have g0 : geo mom 0 = 0 := rfl
    have e2 : i + 1 - 1 = i := by omega
    simp only [wP, wQ, geo_succ, z, g0, e2, Nat.sub_self, pow_zero, pow_succ]
    ring

/-- Reading the memory at step `i` with any vector. -/
theorem read_at (i : ℕ) (q : Vc) (d : Fin 64) : predOf (run lr mom k v s i).1 q d
    = predOf s.1 q d - lr * mom * geo mom i * predOf s.2 q d
      - ∑ r ∈ range i, wP lr mom i r * (∑ j, q j * k r j) * u lr mom k v s r d
      + ∑ r ∈ range i, wQ lr mom i r * (∑ j, q j * k r j) * v r d := by
  have h1 : ∀ (w : ℕ → ℝ) (x : ℕ → Vc), ∑ r ∈ range i, w r * (∑ j, q j * k r j) * x r d
      = ∑ j, (∑ r ∈ range i, w r * x r d * k r j) * q j := by
    intro w x
    simp only [sum_mul, mul_sum]
    rw [sum_comm]
    exact sum_congr rfl fun j _ => sum_congr rfl fun r _ => by ring
  rw [h1, h1]
  unfold predOf
  rw [mul_sum, ← sum_sub_distrib, ← sum_sub_distrib, ← sum_add_distrib]
  refine sum_congr rfl fun j _ => ?_
  rw [run_fst]; ring

end Closed

/-! ### The blocked evaluation -/

/-- One squaring: the partial solution and the power of the matrix. -/
def dbl (x : Mt × Mt) : Mt × Mt := (x.1 + x.2 * x.1, x.2 * x.2)

/-- The solution after six squarings. -/
def solve (B N : Mt) : Mt :=
  let x := dbl^[5] (B, N)
  x.1 + x.2 * x.1

theorem dbl_spec (B N : Mt) (n : ℕ) : (dbl^[n] (B, N)).2 = N ^ 2 ^ n ∧ (1 - N) * (dbl^[n] (B, N)).1 = (1 - N ^ 2 ^ n) * B := by
  induction n with
  | zero => simp
  | succ n ih =>
    obtain ⟨h2, h1⟩ := ih
    rw [Function.iterate_succ_apply']
    simp only [dbl]
    have hc : (1 - N) * N ^ 2 ^ n = N ^ 2 ^ n * (1 - N) :=
      (((Commute.one_left _).sub_left ((Commute.refl N).pow_right _))).eq
    refine ⟨by rw [h2, ← pow_add, pow_succ, mul_two], ?_⟩
    rw [h2, mul_add, ← mul_assoc, hc, mul_assoc, h1, pow_succ 2 n, mul_two, pow_add]
    noncomm_ring

/-- The powers of a strictly lower triangular matrix leave one more diagonal at each step. -/
theorem pow_lower {N : Mt} (hN : ∀ i j : Fin 64, i ≤ j → N i j = 0) (n : ℕ) :
    ∀ i j : Fin 64, i.val < j.val + n → (N ^ n) i j = 0 := by
  induction n with
  | zero => intro i j h; rw [pow_zero, Matrix.one_apply_ne]; intro e; subst e; omega
  | succ n ih =>
    intro i j h
    rw [pow_succ, Matrix.mul_apply]
    refine Finset.sum_eq_zero fun l _ => ?_
    by_cases hl : i.val < l.val + n
    · rw [ih i l hl, zero_mul]
    · rw [hN l j (by rw [Fin.le_def]; omega), mul_zero]

theorem pow_lower_zero {N : Mt} (hN : ∀ i j : Fin 64, i ≤ j → N i j = 0) : N ^ 64 = 0 := by
  ext i j; exact pow_lower hN 64 i j (by omega)

/-- Six squarings solve a unit lower triangular system of 64 rows. -/
theorem solve_eq {B N U : Mt} (hN : ∀ i j : Fin 64, i ≤ j → N i j = 0) (hU : U = B + N * U) : solve B N = U := by
  have hz := pow_lower_zero hN
  have e : solve B N = (dbl^[6] (B, N)).1 := by
    rw [Function.iterate_succ_apply']; rfl
  have h := (dbl_spec B N 6).2
  rw [← e, show 2 ^ 6 = 64 from rfl, hz, sub_zero, one_mul] at h
  have hX : solve B N - U = N * (solve B N - U) := by
    have h' : solve B N = B + N * solve B N := by
      rw [sub_mul, one_mul] at h; exact sub_eq_iff_eq_add.1 h
    calc solve B N - U = (B + N * solve B N) - (B + N * U) := by rw [← h', ← hU]
      _ = N * (solve B N - U) := by rw [mul_sub]; abel
  have hp : ∀ n, solve B N - U = N ^ n * (solve B N - U) := by
    intro n
    induction n with
    | zero => simp
    | succ n ih => rw [pow_succ, mul_assoc, ← hX]; exact ih
  have := hp 64
  rw [hz, zero_mul] at this
  exact sub_eq_zero.1 this

/-- The table that is `w i r` below the diagonal and zero elsewhere. -/
def low (w : ℕ → ℕ → ℝ) : Mt := Matrix.of fun i r => if r.val < i.val then w i.val r.val else 0

/-- A sum over all 64 earlier and later rows against a lower table is a sum over the earlier ones. -/
theorem sum_low (w : ℕ → ℕ → ℝ) (i : Fin 64) (f : ℕ → ℝ) :
    ∑ r : Fin 64, low w i r * f r.val = ∑ r ∈ range i.val, w i.val r * f r := by
  have h : ∀ r : Fin 64, low w i r * f r.val = (fun r : ℕ => if r < i.val then w i.val r * f r else 0) r.val := by
    intro r; simp only [low, Matrix.of_apply]; split_ifs <;> simp
  rw [sum_congr rfl fun r _ => h r, Fin.sum_univ_eq_sum_range (fun r : ℕ => if r < i.val then w i.val r * f r else 0) 64,
    ← sum_filter]
  refine sum_congr ?_ fun _ _ => rfl
  ext r; simp only [mem_filter, mem_range]; have := i.isLt; omega

/-- The entrywise product. -/
def had {a b : ℕ} (A B : Matrix (Fin a) (Fin b) ℝ) : Matrix (Fin a) (Fin b) ℝ := Matrix.of fun i j => A i j * B i j

section Block

variable (lr mom : ℝ) (k v q : ℕ → Vc) (s : St)

/-- The first 64 rows of a sequence. -/
def rows (x : ℕ → Vc) : Mt := Matrix.of fun i j => x i.val j

/-- The weights of the momentum buffer, row by row. -/
def g2v : Vc := fun i => lr * mom * geo mom i.val
def cPv : Vc := fun r => lr * mom * geo mom (63 - r.val) + 1 + lr
def cQv : Vc := fun r => lr * mom * geo mom (63 - r.val) + lr
def dmv : Vc := fun r => mom ^ (63 - r.val)

/-- The right-hand side of the system, and, for the queries, the part of the output that needs no prediction. -/
def rhs (X : Mt) : Mt := Matrix.of fun i d =>
  (X * s.1ᵀ) i d - g2v lr mom i * (X * s.2ᵀ) i d
    + (had (low (wQ lr mom)) (X * (rows k)ᵀ) * rows v) i d

/-- The predictions of a block. -/
def blockU : Mt := solve (rhs lr mom k v s (rows k)) (-(had (low (wP lr mom)) (rows k * (rows k)ᵀ)))

/-- Row `i` of a product with the transposed memory is the memory read with row `i`. -/
theorem mul_transpose_predOf (x : ℕ → Vc) (M : Mt) (i d : Fin 64) : (rows x * Mᵀ) i d = predOf M (x i.val) d := by
  rw [Matrix.mul_apply]; unfold predOf
  exact sum_congr rfl fun j _ => by rw [Matrix.transpose_apply, mul_comm]; rfl

theorem hadamard_mul (w : ℕ → ℕ → ℝ) (x : ℕ → Vc) (Y : ℕ → Vc) (i d : Fin 64) :
    (had (low w) (rows x * (rows k)ᵀ) * rows Y) i d
      = ∑ r ∈ range i.val, w i.val r * (∑ j, x i.val j * k r j) * Y r d := by
  rw [Matrix.mul_apply]
  have h := sum_low w i (fun r => (∑ j, x i.val j * k r j) * Y r d)
  simp only [← mul_assoc] at h
  rw [← h]
  exact sum_congr rfl fun r _ => by
    rw [had, Matrix.of_apply, Matrix.mul_apply]; rfl

/-- Reading the memory at the steps of a block with the rows of any sequence. -/
theorem rhs_read (x : ℕ → Vc) (i d : Fin 64) : predOf (run lr mom k v s i.val).1 (x i.val) d
    = (rhs lr mom k v s (rows x)
        - had (low (wP lr mom)) (rows x * (rows k)ᵀ) * rows (u lr mom k v s)) i d := by
  rw [read_at, Matrix.sub_apply, hadamard_mul]
  simp only [rhs, Matrix.of_apply, mul_transpose_predOf, hadamard_mul, g2v]
  ring

/-- The blocked solution is the sequence of predictions. -/
theorem blockU_eq : blockU lr mom k v s = rows (u lr mom k v s) := by
  refine solve_eq ?_ ?_
  · intro i j hij
    have : ¬ j.val < i.val := by rw [Fin.le_def] at hij; omega
    have h2 : ¬ j < i := by rw [Fin.lt_def]; exact this
    simp [had, low, h2]
  · ext i d
    have h := rhs_read lr mom k v s k i d
    rw [Matrix.neg_mul, ← sub_eq_add_neg]
    exact h

/-- The blocked outputs are the memory read at each step. -/
theorem block_out (i d : Fin 64) :
    (rhs lr mom k v s (rows q) - had (low (wP lr mom)) (rows q * (rows k)ᵀ) * blockU lr mom k v s) i d
      = predOf (run lr mom k v s i.val).1 (q i.val) d := by
  rw [blockU_eq, ← rhs_read]

/-- The momentum buffer after the block, transposed. -/
theorem block_mbuf (j d : Fin 64) :
    mom ^ 64 * s.2 d j + ((rows k)ᵀ * Matrix.of fun r d => dmv mom r * (blockU lr mom k v s r d - rows v r d)) j d
      = (run lr mom k v s 64).2 d j := by
  rw [blockU_eq, run_snd, Matrix.mul_apply, ← Fin.sum_univ_eq_sum_range
    (fun r => mom ^ (64 - 1 - r) * (u lr mom k v s r d - v r d) * k r j) 64]
  congr 1
  refine sum_congr rfl fun r _ => ?_
  simp only [Matrix.transpose_apply, Matrix.of_apply, rows, dmv]
  ring

/-- The memory after the block, transposed. -/
theorem block_mem (j d : Fin 64) :
    s.1 d j - lr * mom * geo mom 64 * s.2 d j
        - ((rows k)ᵀ * Matrix.of fun r d => cPv lr mom r * blockU lr mom k v s r d - cQv lr mom r * rows v r d) j d
      = (run lr mom k v s 64).1 d j := by
  rw [blockU_eq, run_fst, Matrix.mul_apply,
    ← Fin.sum_univ_eq_sum_range (fun r => wP lr mom 64 r * u lr mom k v s r d * k r j) 64,
    ← Fin.sum_univ_eq_sum_range (fun r => wQ lr mom 64 r * v r d * k r j) 64, sub_add, ← sum_sub_distrib]
  congr 1
  refine sum_congr rfl fun r _ => ?_
  simp only [Matrix.transpose_apply, Matrix.of_apply, rows, cPv, cQv, wP, wQ]
  ring

end Block

end Delta

end
-- ==== Proof.Delta.Head.lean ====
/- What one grid point of the scan computes for one head, as a function of that head's keys, values, queries, tables and
   states: the same for the eight heads, in the kernel's own vector operations. The kernel writes it out eight times,
   interleaved; `Tie.lean` says that each copy is this function. -/
module

public import proofs.«01_k».proof.Proof.Gen.KernelIdeal

@[expose] public section

noncomputable section

namespace Delta

open Idealize.ShloMosaic Cert.KernelIdeal Cert.KernelIdeal.Facts₀ Cert.KernelIdeal.Facts

variable {F : FTy → Type} [FloatOps F]

/-- The high half of a value split into two halves. -/
def hi {s : Shape} (x : FVec F s .f32) : FVec F s .bf16 := truncf .bf16 x bitsLt_bf16_f32
/-- The low half. -/
def lo {s : Shape} (x : FVec F s .f32) : FVec F s .bf16 := hi (subf x (extf .f32 (hi x) bitsLt_bf16_f32))

/-- The zero accumulator of a product. -/
abbrev zer (s : Shape) : FVec F s .f32 := constant s .f32 0x00000000#32

section

variable (kn v q : FVec F S64x64 .f32) (P Q : FVec F S1x64x64 .f32) (g2 cP cQ dm aGC momC : FVec F S1x64x1 .f32)
  (mT bT : FVec F S1x1x64x64 .f32)

/-- A table of one head as a matrix. -/
def tab (t : FVec F S1x64x64 .f32) : FVec F S64x64 .f32 := shapeCast S64x64 t shapeCasts_S1x64x64_S64x64
/-- A state of one head as a matrix. -/
def stm (t : FVec F S1x1x64x64 .f32) : FVec F S64x64 .f32 := shapeCast S64x64 t shapeCasts_S1x1x64x64_S64x64
/-- A column of one head, repeated along the rows. -/
def col (t : FVec F S1x64x1 .f32) : FVec F S64x64 .f32 :=
  broadcastTo S64x64 (shapeCast S64x1 t shapeCasts_S1x64x1_S64x1) broadcasts_S64x1_S64x64

/-- Keys over queries. -/
def kq : FVec F S128x64 .f32 := concatenate S128x64 0 [⟨S64x64, kn⟩, ⟨S64x64, q⟩] concatenates_S64x64_S64x64_S128x64_d0
/-- The keys' high half. -/
def knh : FVec F S64x64 .bf16 := extractStridedSlice S64x64 ![0, 0] (hi (kq kn q)) slices_S128x64_o0_0_S64x64
/-- The keys' low half. -/
def knl : FVec F S64x64 .bf16 := extractStridedSlice S64x64 ![0, 0] (lo (kq kn q)) slices_S128x64_o0_0_S64x64

/-- The products of keys and queries with the keys, over both halves. -/
def sq2 : FVec F S128x64 .f32 :=
  let p := matmul dot_S128x64_S128x64_S128x128_1_1_0_0_n_n none (hi (kq kn q))
    (concatenate S128x64 0 [⟨S64x64, knh kn q⟩, ⟨S64x64, knl kn q⟩] concatenates_S64x64_S64x64_S128x64_d0) (zer S128x128)
  addf (addf (extractStridedSlice S128x64 ![0, 0] p slices_S128x128_o0_0_S128x64)
      (extractStridedSlice S128x64 ![0, 64] p slices_S128x128_o0_64_S128x64))
    (matmul dot_S128x64_S64x64_S128x64_1_1_0_0_n_n none (lo (kq kn q)) (knh kn q) (zer S128x64))
/-- Keys against keys. -/
def smat : FVec F S64x64 .f32 := extractStridedSlice S64x64 ![0, 0] (sq2 kn q) slices_S128x64_o0_0_S64x64
/-- Queries against keys. -/
def sqm : FVec F S64x64 .f32 := extractStridedSlice S64x64 ![64, 0] (sq2 kn q) slices_S128x64_o64_0_S64x64

/-- Keys and queries against the memory and the momentum buffer. -/
def mb : FVec F S128x128 .f32 :=
  let x := concatenate S64x128 1 [⟨S64x64, stm mT⟩, ⟨S64x64, stm bT⟩] concatenates_S64x64_S64x64_S64x128_d1
  addf (addf (matmul dot_S128x64_S64x128_S128x128_1_0_0_1_n_n none (hi (kq kn q)) (hi x) (zer S128x128))
      (matmul dot_S128x64_S64x128_S128x128_1_0_0_1_n_n none (hi (kq kn q)) (lo x) (zer S128x128)))
    (matmul dot_S128x64_S64x128_S128x128_1_0_0_1_n_n none (lo (kq kn q)) (hi x) (zer S128x128))

/-- The part of the values, for the predictions and for the outputs. -/
def rv : FVec F S128x64 .f32 :=
  let x := concatenate S128x64 0 [⟨S64x64, mulf (tab Q) (smat kn q)⟩, ⟨S64x64, mulf (tab Q) (sqm kn q)⟩]
    concatenates_S64x64_S64x64_S128x64_d0
  addf (addf (matmul dot_S128x64_S64x64_S128x64_1_0_0_1_n_n none (hi x) (hi v) (zer S128x64))
      (matmul dot_S128x64_S64x64_S128x64_1_0_0_1_n_n none (hi x) (lo v) (zer S128x64)))
    (matmul dot_S128x64_S64x64_S128x64_1_0_0_1_n_n none (lo x) (hi v) (zer S128x64))

/-- The right-hand side of the system for the predictions. -/
def u0 : FVec F S64x64 .f32 :=
  addf (subf (extractStridedSlice S64x64 ![0, 0] (mb kn q mT bT) slices_S128x128_o0_0_S64x64)
      (mulf (col g2) (extractStridedSlice S64x64 ![0, 64] (mb kn q mT bT) slices_S128x128_o0_64_S64x64)))
    (extractStridedSlice S64x64 ![0, 0] (rv kn v q Q) slices_S128x64_o0_0_S64x64)
/-- The matrix of the system. -/
def n0 : FVec F S64x64 .f32 :=
  subf (broadcast S64x64 (Scalar.ofBits .f32 0x00000000#32)) (mulf (tab P) (smat kn q))

/-- A matrix times a matrix, over both halves, added to a start. -/
def updU (U N : FVec F S64x64 .f32) : FVec F S64x64 .f32 :=
  addf (addf (addf U (matmul dot_S64x64_S64x64_S64x64_1_0_0_1_n_n none (hi N) (hi U) (zer S64x64)))
      (matmul dot_S64x64_S64x64_S64x64_1_0_0_1_n_n none (hi N) (lo U) (zer S64x64)))
    (matmul dot_S64x64_S64x64_S64x64_1_0_0_1_n_n none (lo N) (hi U) (zer S64x64))
/-- A matrix times a matrix, over both halves. -/
def mul2 (X Y : FVec F S64x64 .f32) : FVec F S64x64 .f32 :=
  addf (addf (matmul dot_S64x64_S64x64_S64x64_1_0_0_1_n_n none (hi X) (hi Y) (zer S64x64))
      (matmul dot_S64x64_S64x64_S64x64_1_0_0_1_n_n none (hi X) (lo Y) (zer S64x64)))
    (matmul dot_S64x64_S64x64_S64x64_1_0_0_1_n_n none (lo X) (hi Y) (zer S64x64))

/-- The state of the solution after `n` squarings. -/
def sqs : ℕ → FVec F S64x64 .f32 × FVec F S64x64 .f32
  | 0 => (u0 kn v q Q g2 mT bT, n0 kn q P)
  | n + 1 => (updU (sqs n).1 (sqs n).2, mul2 (sqs n).2 (sqs n).2)

/-- The predictions. -/
def u6 : FVec F S64x64 .f32 :=
  updU (sqs kn v q P Q g2 mT bT 5).1 (sqs kn v q P Q g2 mT bT 5).2

/-- The outputs. -/
def outH : FVec F S64x64 .f32 :=
  addf (subf (subf (extractStridedSlice S64x64 ![64, 0] (mb kn q mT bT) slices_S128x128_o64_0_S64x64)
        (mulf (col g2) (extractStridedSlice S64x64 ![64, 64] (mb kn q mT bT) slices_S128x128_o64_64_S64x64)))
      (mul2 (mulf (tab P) (sqm kn q)) (u6 kn v q P Q g2 mT bT)))
    (extractStridedSlice S64x64 ![64, 0] (rv kn v q Q) slices_S128x64_o64_0_S64x64)

/-- The weighted predictions and values that the two states take up. -/
def wv (U : FVec F S64x64 .f32) : FVec F S64x128 .f32 :=
  concatenate S64x128 1 [⟨S64x64, subf (mulf (col cP) U) (mulf (col cQ) v)⟩, ⟨S64x64, mulf (col dm) (subf U v)⟩]
    concatenates_S64x64_S64x64_S64x128_d1
/-- What the two states take up. -/
def upd (U : FVec F S64x64 .f32) : FVec F S64x128 .f32 :=
  addf (addf (matmul dot_S64x64_S64x128_S64x128_0_0_1_1_n_n none (knh kn q) (hi (wv v cP cQ dm U)) (zer S64x128))
      (matmul dot_S64x64_S64x128_S64x128_0_0_1_1_n_n none (knh kn q) (lo (wv v cP cQ dm U)) (zer S64x128)))
    (matmul dot_S64x64_S64x128_S64x128_0_0_1_1_n_n none (knl kn q) (hi (wv v cP cQ dm U)) (zer S64x128))
/-- The memory after the block. -/
def memH : FVec F S1x1x64x64 .f32 :=
  shapeCast S1x1x64x64 (subf (subf (stm mT) (mulf (col aGC) (stm bT)))
    (extractStridedSlice S64x64 ![0, 0] (upd kn v q cP cQ dm (u6 kn v q P Q g2 mT bT)) slices_S64x128_o0_0_S64x64))
    shapeCasts_S64x64_S1x1x64x64
/-- The momentum buffer after the block. -/
def bufH : FVec F S1x1x64x64 .f32 :=
  shapeCast S1x1x64x64 (addf (mulf (col momC) (stm bT))
    (extractStridedSlice S64x64 ![0, 64] (upd kn v q cP cQ dm (u6 kn v q P Q g2 mT bT)) slices_S64x128_o0_64_S64x64))
    shapeCasts_S64x64_S1x1x64x64

end

end Delta

end
-- ==== Proof.Delta.Ops.lean ====
/- The kernel's vector operations on matrices of real numbers: each of them, on real matrices, is the operation of that
   name on real matrices. -/
module

public import proofs.«01_k».proof.Proof.Delta.Math
public import proofs.«01_k».proof.Proof.Delta.Head
public import Idealize.ShloMosaic.Lib.Pointwise

@[expose] public section

set_option maxRecDepth 16384

noncomputable section

namespace Delta

open Idealize.ShloMosaic Cert.KernelIdeal Cert.KernelIdeal.Facts₀ Cert.KernelIdeal.Facts
open Finset Matrix

/-- A real matrix as a vector value. -/
def cm {a b : ℕ} (t : FTy) (M : Matrix (Fin a) (Fin b) ℝ) : FVec Ideal ⟨2, ![a, b]⟩ t :=
  fun j => ((M (j 0) (j 1) : ℝ) : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

variable {a b : ℕ} {t : FTy}

theorem cm_addf (A B : Matrix (Fin a) (Fin b) ℝ) : addf (cm t A) (cm t B) = cm t (A + B) :=
  funext fun _ => (EReal.coe_add _ _).symm
theorem cm_subf (A B : Matrix (Fin a) (Fin b) ℝ) : subf (cm t A) (cm t B) = cm t (A - B) :=
  funext fun _ => (EReal.coe_sub _ _).symm
theorem cm_mulf (A B : Matrix (Fin a) (Fin b) ℝ) : mulf (cm t A) (cm t B) = cm t (had A B) :=
  funext fun _ => (EReal.coe_mul _ _).symm
theorem cm_hi (A : Matrix (Fin a) (Fin b) ℝ) : hi (cm .f32 A) = cm .bf16 A := rfl
theorem cm_lo (A : Matrix (Fin a) (Fin b) ℝ) : lo (cm .f32 A) = cm .bf16 0 := by
  have e : extf .f32 (hi (cm .f32 A)) bitsLt_bf16_f32 = cm .f32 A := rfl
  rw [lo, e, cm_subf, cm_hi, sub_self]
theorem cm_zero (s : FTy) : cm s (0 : Matrix (Fin a) (Fin b) ℝ) = fun _ => (0 : EReal) := rfl

/-! ### Products -/

/-- The value of a product of real matrices at an index. -/
theorem coe_dot {n : ℕ} (f g : Fin n → ℝ) :
    ∑ k, ((f k : ℝ) : EReal) * ((g k : ℝ) : EReal) = ((∑ k, f k * g k : ℝ) : EReal) := by
  rw [coe_sum]
  exact sum_congr rfl fun k _ => (EReal.coe_mul _ _).symm

theorem cm_mm (A B : Mt) : matmul dot_S64x64_S64x64_S64x64_1_0_0_1_n_n none (cm .bf16 A) (cm .bf16 B) (zer S64x64)
    = cm .f32 (A * B) := by
  funext j; idx_vars j; pointwise [cm, zer]
  exact coe_dot _ _
theorem cm_mm2 (A : Matrix (Fin 128) (Fin 64) ℝ) (B : Matrix (Fin 64) (Fin 128) ℝ) :
    matmul dot_S128x64_S64x128_S128x128_1_0_0_1_n_n none (cm .bf16 A) (cm .bf16 B) (zer S128x128) = cm .f32 (A * B) := by
  funext j; idx_vars j; pointwise [cm, zer]
  exact coe_dot _ _
theorem cm_mm3 (A : Matrix (Fin 128) (Fin 64) ℝ) (B : Mt) :
    matmul dot_S128x64_S64x64_S128x64_1_0_0_1_n_n none (cm .bf16 A) (cm .bf16 B) (zer S128x64) = cm .f32 (A * B) := by
  funext j; idx_vars j; pointwise [cm, zer]
  exact coe_dot _ _
theorem cm_nt (A B : Matrix (Fin 128) (Fin 64) ℝ) :
    matmul dot_S128x64_S128x64_S128x128_1_1_0_0_n_n none (cm .bf16 A) (cm .bf16 B) (zer S128x128) = cm .f32 (A * Bᵀ) := by
  funext j; idx_vars j; pointwise [cm, zer]
  exact coe_dot _ _
theorem cm_nt2 (A : Matrix (Fin 128) (Fin 64) ℝ) (B : Mt) :
    matmul dot_S128x64_S64x64_S128x64_1_1_0_0_n_n none (cm .bf16 A) (cm .bf16 B) (zer S128x64) = cm .f32 (A * Bᵀ) := by
  funext j; idx_vars j; pointwise [cm, zer]
  exact coe_dot _ _
theorem cm_tn (A : Mt) (B : Matrix (Fin 64) (Fin 128) ℝ) :
    matmul dot_S64x64_S64x128_S64x128_0_0_1_1_n_n none (cm .bf16 A) (cm .bf16 B) (zer S64x128) = cm .f32 (Aᵀ * B) := by
  funext j; idx_vars j; pointwise [cm, zer]
  exact coe_dot _ _

/-! ### Two matrices one over the other, or side by side -/

/-- One over the other. -/
def vc {n : ℕ} (A B : Matrix (Fin 64) (Fin n) ℝ) : Matrix (Fin 128) (Fin n) ℝ :=
  of fun i j => if h : i.val < 64 then A ⟨i.val, h⟩ j else B ⟨i.val - 64, by omega⟩ j
/-- Side by side. -/
def hc {n : ℕ} (A B : Matrix (Fin n) (Fin 64) ℝ) : Matrix (Fin n) (Fin 128) ℝ :=
  of fun i j => if h : j.val < 64 then A i ⟨j.val, h⟩ else B i ⟨j.val - 64, by omega⟩

theorem vc_mul {n p : ℕ} (A B : Matrix (Fin 64) (Fin n) ℝ) (C : Matrix (Fin n) (Fin p) ℝ) : vc A B * C = vc (A * C) (B * C) := by
  ext i j; simp only [vc, Matrix.mul_apply, of_apply]; split <;> rfl
theorem mul_hc {n p : ℕ} (A : Matrix (Fin p) (Fin n) ℝ) (B C : Matrix (Fin n) (Fin 64) ℝ) : A * hc B C = hc (A * B) (A * C) := by
  ext i j; simp only [hc, Matrix.mul_apply, of_apply]; split <;> rfl
theorem vc_hc {n : ℕ} (A B : Matrix (Fin 64) (Fin n) ℝ) : (vc A B)ᵀ = hc Aᵀ Bᵀ := rfl
theorem vc_hc_comm (A B C D : Mt) : hc (vc A C) (vc B D) = vc (hc A B) (hc C D) := by
  ext i j; simp only [hc, vc, of_apply]; split <;> split <;> rfl
theorem vc_zero {n : ℕ} : vc (0 : Matrix (Fin 64) (Fin n) ℝ) 0 = 0 := by ext i j; simp [vc]
theorem hc_zero {n : ℕ} : hc (0 : Matrix (Fin n) (Fin 64) ℝ) 0 = 0 := by ext i j; simp [hc]

theorem cm_vc (t : FTy) (A B : Mt) : concatenate S128x64 0 [⟨S64x64, (cm t A : S64x64.Idx → Ideal t)⟩, ⟨S64x64, cm t B⟩] concatenates_S64x64_S64x64_S128x64_d0
    = cm t (vc A B) := by
  funext j; idx_vars j; pointwise [cm]
  rw [vc, of_apply]; split <;> rfl
theorem cm_hc (t : FTy) (A B : Mt) : concatenate S64x128 1 [⟨S64x64, (cm t A : S64x64.Idx → Ideal t)⟩, ⟨S64x64, cm t B⟩] concatenates_S64x64_S64x64_S64x128_d1
    = cm t (hc A B) := by
  funext j; idx_vars j; pointwise [cm]
  rw [hc, of_apply]; split <;> rfl
theorem cm_top (t : FTy) (A B : Mt) : extractStridedSlice S64x64 ![0, 0] (cm t (vc A B)) slices_S128x64_o0_0_S64x64 = cm t A := by
  funext j; idx_vars j; pointwise [cm, vc]
  simp
theorem cm_bot (t : FTy) (A B : Mt) : extractStridedSlice S64x64 ![64, 0] (cm t (vc A B)) slices_S128x64_o64_0_S64x64 = cm t B := by
  funext j; idx_vars j; pointwise [cm, vc]
  simp
theorem cm_left (t : FTy) (A B : Matrix (Fin 128) (Fin 64) ℝ) :
    extractStridedSlice S128x64 ![0, 0] (cm t (hc A B)) slices_S128x128_o0_0_S128x64 = cm t A := by
  funext j; idx_vars j; pointwise [cm, hc]
  simp
theorem cm_right (t : FTy) (A B : Matrix (Fin 128) (Fin 64) ℝ) :
    extractStridedSlice S128x64 ![0, 64] (cm t (hc A B)) slices_S128x128_o0_64_S128x64 = cm t B := by
  funext j; idx_vars j; pointwise [cm, hc]
  simp
theorem cm_left' (t : FTy) (A B : Mt) :
    extractStridedSlice S64x64 ![0, 0] (cm t (hc A B)) slices_S64x128_o0_0_S64x64 = cm t A := by
  funext j; idx_vars j; pointwise [cm, hc]
  simp
theorem cm_right' (t : FTy) (A B : Mt) :
    extractStridedSlice S64x64 ![0, 64] (cm t (hc A B)) slices_S64x128_o0_64_S64x64 = cm t B := by
  funext j; idx_vars j; pointwise [cm, hc]
  simp
theorem cm_11 (t : FTy) (A B C D : Mt) :
    extractStridedSlice S64x64 ![0, 0] (cm t (vc (hc A B) (hc C D))) slices_S128x128_o0_0_S64x64 = cm t A := by
  funext j; idx_vars j; pointwise [cm, vc, hc]
  simp
theorem cm_12 (t : FTy) (A B C D : Mt) :
    extractStridedSlice S64x64 ![0, 64] (cm t (vc (hc A B) (hc C D))) slices_S128x128_o0_64_S64x64 = cm t B := by
  funext j; idx_vars j; pointwise [cm, vc, hc]
  simp
theorem cm_21 (t : FTy) (A B C D : Mt) :
    extractStridedSlice S64x64 ![64, 0] (cm t (vc (hc A B) (hc C D))) slices_S128x128_o64_0_S64x64 = cm t C := by
  funext j; idx_vars j; pointwise [cm, vc, hc]
  simp
theorem cm_22 (t : FTy) (A B C D : Mt) :
    extractStridedSlice S64x64 ![64, 64] (cm t (vc (hc A B) (hc C D))) slices_S128x128_o64_64_S64x64 = cm t D := by
  funext j; idx_vars j; pointwise [cm, vc, hc]
  simp

/-! ### Tables, columns and states of one head -/

/-- A real matrix as a table of one head; as a state of one head; a real vector as a column. -/
def ct (M : Mt) : FVec Ideal S1x64x64 .f32 := fun j => ((M (j 1) (j 2) : ℝ) : EReal)
def cst (M : Mt) : FVec Ideal S1x1x64x64 .f32 := fun j => ((M (j 2) (j 3) : ℝ) : EReal)
def cc (w : Vc) : FVec Ideal S1x64x1 .f32 := fun j => ((w (j 1) : ℝ) : EReal)

theorem tab_ct (M : Mt) : tab (ct M) = cm .f32 M := by
  funext j; idx_vars j; pointwise [tab, ct, cm]
theorem stm_cst (M : Mt) : stm (cst M) = cm .f32 M := by
  funext j; idx_vars j; pointwise [stm, cst, cm]
theorem col_cc (w : Vc) : col (cc w) = cm .f32 (of fun i _ => w i : Mt) := by
  funext j; idx_vars j; pointwise [col, cc, cm]
  rfl
theorem cst_cast (M : Mt) : shapeCast S1x1x64x64 (cm .f32 M) shapeCasts_S64x64_S1x1x64x64 = cst M := by
  funext j; idx_vars j; pointwise [cst, cm]

end Delta

end
-- ==== Proof.Delta.HostOps.lean ====
/- The host's table operations at an index: looking up a column of a table, and the running sums along its rows. -/
module

public import proofs.«01_k».proof.Proof.Delta.Ops
public import Idealize.ShloMosaic.Lib.Routing.Ops

@[expose] public section

set_option maxRecDepth 16384

noncomputable section

namespace Delta

open Idealize.ShloMosaic Cert.KernelIdeal Cert.KernelIdeal.Facts₀ Cert.KernelIdeal.Facts
open Finset

/-- A column number as the machine's word, read as a number. -/
theorem word_col (n : ℕ) (hn : n < 65) : min (BitVec.ofNat 32 n).toInt.toNat 64 = n := by
  have : (BitVec.ofNat 32 n).toInt = (n : ℤ) := by
    rw [BitVec.toInt_eq_toNat_of_lt] <;> rw [BitVec.toNat_ofNat, Nat.mod_eq_of_lt (by omega)]
    omega
  rw [this]; simp; omega

/-- Looking up a column for each pair of rows. -/
theorem gather_pair {α : Type} (x : S8x65.Idx → α) (idx : IVec S64x64x1 32) (h : Fin 8) (i r : Fin 64) (n : Fin 65)
    (hn : idx (ix3 i r 0) = BitVec.ofNat 32 n.val) :
    Host.gather gather_S8x65_S64x64x1_S8x64x64_0_1_n_n_1_2_81 x idx (ix3 h i r) = x (ix2 h n) := by
  unfold Host.gather
  refine congrArg x (funext fun a => Fin.ext ?_)
  match a with
  | ⟨0, _⟩ => show 0 + 0 + h.val = h.val; omega
  | ⟨1, _⟩ =>
    have e : gather_S8x65_S64x64x1_S8x64x64_0_1_n_n_1_2_81.siIdx (ix3 h i r) ⟨0, Nat.one_pos⟩ = (ix3 i r 0 : S64x64x1.Idx) := by
      funext b; match b with
        | ⟨0, _⟩ => rfl
        | ⟨1, _⟩ => rfl
        | ⟨2, _⟩ => rfl
    show min (idx (gather_S8x65_S64x64x1_S8x64x64_0_1_n_n_1_2_81.siIdx (ix3 h i r) ⟨0, Nat.one_pos⟩)).toInt.toNat 64 + 0 + 0 = n.val
    rw [e, hn, word_col _ n.isLt]; rfl

/-- Looking up a column for each row. -/
theorem gather_row1 {α : Type} (x : S8x65.Idx → α) (idx : IVec S64x1 32) (h : Fin 8) (i : Fin 64) (n : Fin 65)
    (hn : idx (ix2 i 0) = BitVec.ofNat 32 n.val) :
    Host.gather gather_S8x65_S64x1_S8x64_0_1_n_n_1_1_81 x idx (ix2 h i) = x (ix2 h n) := by
  unfold Host.gather
  refine congrArg x (funext fun a => Fin.ext ?_)
  match a with
  | ⟨0, _⟩ => show 0 + 0 + h.val = h.val; omega
  | ⟨1, _⟩ =>
    have e : gather_S8x65_S64x1_S8x64_0_1_n_n_1_1_81.siIdx (ix2 h i) ⟨0, Nat.one_pos⟩ = (ix2 i 0 : S64x1.Idx) := by
      funext b; match b with
        | ⟨0, _⟩ => rfl
        | ⟨1, _⟩ => rfl
    show min (idx (gather_S8x65_S64x1_S8x64_0_1_n_n_1_1_81.siIdx (ix2 h i) ⟨0, Nat.one_pos⟩)).toInt.toNat 64 + 0 + 0 = n.val
    rw [e, hn, word_col _ n.isLt]; rfl

/-- Adding real numbers up one after the other is their sum. -/
theorem foldl_real {N : ℕ} (f : Fin N → EReal) (g : Fin N → ℝ) (hf : ∀ n, f n = ((g n : ℝ) : EReal)) :
    (List.finRange N).foldl (fun r n => r + f n) (0 : EReal) = ((∑ n, g n : ℝ) : EReal) := by
  have h : ∀ (l : List (Fin N)) (a : ℝ), l.foldl (fun r n => r + f n) (a : EReal) = ((a + (l.map g).sum : ℝ) : EReal) := by
    intro l
    induction l with
    | nil => intro a; simp
    | cons b l ih => intro a; rw [List.foldl_cons, hf, ← EReal.coe_add, ih, List.map_cons, List.sum_cons, add_assoc]
  have := h (List.finRange N) 0
  rw [zero_add] at this
  refine this.trans (congrArg _ ?_)
  rw [← List.ofFn_eq_map, List.sum_ofFn]

/-- The running sums along a row. -/
theorem cumsum_real (x : FVec Ideal S8x64 .f32) (z : FVec Ideal S_ .f32) (hz : z = fun _ => 0) (f : Fin 8 → ℕ → ℝ)
    (hx : ∀ h i, x (ix2 h i) = ((f h i.val : ℝ) : EReal)) (h : Fin 8) (i : Fin 64) :
    Host.reduceWindowAdd ![1, 64] ![1, 1] ![0, 63] ![0, 0] x z reduceWindows_S8x64_S8x64_w1s1p0_0_w64s1p63_0 h_S_ (ix2 h i)
      = ((∑ j ∈ range (i.val + 1), f h j : ℝ) : EReal) := by
  subst hz
  have hi := i.isLt
  show Host.reduceWindow (· + ·) ![1, 64] ![1, 1] ![0, 63] ![0, 0] x (fun _ : (⟨0, ![]⟩ : Shape).Idx => (0 : EReal)) reduceWindows_S8x64_S8x64_w1s1p0_0_w64s1p63_0 (by decide) (ix2 h i) = _
  unfold Host.reduceWindow
  refine (foldl_real _ (fun n => if 63 ≤ i.val + n.val then f h (i.val + n.val - 63) else 0) fun n => ?_).trans ?_
  · have hw0 : ((Routing.shape2 1 64).rowMajor.symm n 0).val = 0 := by rw [Routing.symm2]; rfl
    have hw : ((Routing.shape2 1 64).rowMajor.symm n 1).val = n.val := by rw [Routing.symm2]; rfl
    have hn : n.val < 64 := (n.cast (Routing.numel2 _)).isLt
    split
    · next hin =>
      have h1 := hin 1
      change 63 ≤ i.val * 1 + ((Routing.shape2 1 64).rowMajor.symm n 1).val
        ∧ i.val * 1 + ((Routing.shape2 1 64).rowMajor.symm n 1).val - 63 < 64 at h1
      rw [hw] at h1
      rw [if_pos (by omega)]
      refine (congrArg x (funext fun a => Fin.ext ?_)).trans (hx h ⟨i.val + n.val - 63, by omega⟩)
      match a with
      | ⟨0, _⟩ =>
        show h.val * 1 + ((Routing.shape2 1 64).rowMajor.symm n 0).val - 0 = h.val
        rw [hw0]; omega
      | ⟨1, _⟩ =>
        show i.val * 1 + ((Routing.shape2 1 64).rowMajor.symm n 1).val - 63 = i.val + n.val - 63
        rw [hw]; omega
    · next hin =>
      rw [if_neg]
      · rfl
      · intro hc
        refine hin fun a => ?_
        match a with
        | ⟨0, _⟩ =>
          show 0 ≤ h.val * 1 + ((Routing.shape2 1 64).rowMajor.symm n 0).val ∧ h.val * 1 + ((Routing.shape2 1 64).rowMajor.symm n 0).val - 0 < 8
          rw [hw0]; omega
        | ⟨1, _⟩ =>
          show 63 ≤ i.val * 1 + ((Routing.shape2 1 64).rowMajor.symm n 1).val ∧ i.val * 1 + ((Routing.shape2 1 64).rowMajor.symm n 1).val - 63 < 64
          rw [hw]; omega
  · congr 1
    have e : (⟨2, ![1, 64]⟩ : Shape).numel = 64 := Routing.numel2 64
    rw [Fin.sum_univ_eq_sum_range (fun n => if 63 ≤ i.val + n then f h (i.val + n - 63) else 0)]
    refine (congrArg (fun N => ∑ n ∈ range N, if 63 ≤ i.val + n then f h (i.val + n - 63) else 0) e).trans ?_
    generalize i.val = k at hi ⊢
    rw [show (64 : ℕ) = (63 - k) + (k + 1) by omega, Finset.sum_range_add, Finset.sum_eq_zero, zero_add]
    · refine sum_congr rfl fun j hj => ?_
      rw [if_pos (by omega)]; congr 1; omega
    · intro j hj
      have := mem_range.1 hj
      rw [if_neg (by omega)]

end Delta

end
-- ==== Proof.Delta.HeadValue.lean ====
/- One grid point of the scan for one head, on real data: its outputs are the memory read at each of the 64 steps, and its
   two states are the states after the 64 steps. -/
module

public import proofs.«01_k».proof.Proof.Delta.Ops

@[expose] public section

set_option maxRecDepth 16384

noncomputable section

namespace Delta

open Idealize.ShloMosaic Cert.KernelIdeal Matrix

variable (K V X P Q M B : Mt) (g2 cP cQ dm a m : Vc)

theorem kq_cm : kq (cm .f32 K) (cm .f32 X) = cm .f32 (vc K X) := cm_vc _ _ _
theorem knh_cm : knh (cm .f32 K) (cm .f32 X) = cm .bf16 K := by rw [knh, kq_cm, cm_hi, cm_top]
theorem knl_cm : knl (cm .f32 K) (cm .f32 X) = cm .bf16 0 := by rw [knl, kq_cm, cm_lo, ← vc_zero, cm_top]

theorem sq2_cm : sq2 (cm .f32 K) (cm .f32 X) = cm .f32 (vc (K * Kᵀ) (X * Kᵀ)) := by
  rw [sq2, kq_cm, knh_cm, knl_cm, cm_vc]
  simp only [cm_hi, cm_lo, cm_nt, cm_nt2, vc_hc, mul_hc, cm_left, cm_right, cm_addf, vc_mul,
    transpose_zero, Matrix.mul_zero, Matrix.zero_mul, vc_zero, add_zero]
theorem smat_cm : smat (cm .f32 K) (cm .f32 X) = cm .f32 (K * Kᵀ) := by rw [smat, sq2_cm, cm_top]
theorem sqm_cm : sqm (cm .f32 K) (cm .f32 X) = cm .f32 (X * Kᵀ) := by rw [sqm, sq2_cm, cm_bot]

theorem mb_cm : mb (cm .f32 K) (cm .f32 X) (cst M) (cst B)
    = cm .f32 (vc (hc (K * M) (K * B)) (hc (X * M) (X * B))) := by
  rw [mb, kq_cm, stm_cst, stm_cst, cm_hc]
  simp only [cm_hi, cm_lo, cm_mm2, cm_addf, vc_mul, mul_hc, vc_hc_comm, Matrix.mul_zero, Matrix.zero_mul, add_zero]
theorem rv_cm : rv (cm .f32 K) (cm .f32 V) (cm .f32 X) (ct Q)
    = cm .f32 (vc (had Q (K * Kᵀ) * V) (had Q (X * Kᵀ) * V)) := by
  rw [rv, smat_cm, sqm_cm, tab_ct, cm_mulf, cm_mulf, cm_vc]
  simp only [cm_hi, cm_lo, cm_mm3, cm_addf, vc_mul, Matrix.mul_zero, Matrix.zero_mul, add_zero]

/-- The right-hand side for the rows of any matrix. -/
def rhsM (K V Q M B : Mt) (g2 : Vc) (X : Mt) : Mt := X * M - had (of fun i _ => g2 i) (X * B) + had Q (X * Kᵀ) * V

theorem u0_cm : u0 (cm .f32 K) (cm .f32 V) (cm .f32 X) (ct Q) (cc g2) (cst M) (cst B) = cm .f32 (rhsM K V Q M B g2 K) := by
  simp only [u0, mb_cm, rv_cm, cm_11, cm_12, col_cc, cm_mulf, cm_subf, cm_top, cm_addf, rhsM]
theorem n0_cm : n0 (cm .f32 K) (cm .f32 X) (ct P) = cm .f32 (-(had P (K * Kᵀ))) := by
  have z : (broadcast S64x64 (Scalar.ofBits .f32 0x00000000#32) : FVec Ideal S64x64 .f32) = cm .f32 (0 : Mt) := by
    funext j; idx_vars j; pointwise [cm]; rfl
  rw [n0, z, smat_cm, tab_ct, cm_mulf, cm_subf, zero_sub]

theorem updU_cm (U N : Mt) : updU (cm .f32 U) (cm .f32 N) = cm .f32 (U + N * U) := by
  simp only [updU, cm_hi, cm_lo, cm_mm, cm_addf, Matrix.mul_zero, Matrix.zero_mul, add_zero]
theorem mul2_cm (U N : Mt) : mul2 (cm .f32 U) (cm .f32 N) = cm .f32 (U * N) := by
  simp only [mul2, cm_hi, cm_lo, cm_mm, cm_addf, Matrix.mul_zero, Matrix.zero_mul, add_zero]

theorem sqs_cm (n : ℕ) : sqs (cm .f32 K) (cm .f32 V) (cm .f32 X) (ct P) (ct Q) (cc g2) (cst M) (cst B) n
    = (cm .f32 (dbl^[n] (rhsM K V Q M B g2 K, -(had P (K * Kᵀ)))).1, cm .f32 (dbl^[n] (rhsM K V Q M B g2 K, -(had P (K * Kᵀ)))).2) := by
  induction n with
  | zero => rw [sqs, u0_cm, n0_cm]; rfl
  | succ n ih => rw [sqs, ih, updU_cm, mul2_cm, Function.iterate_succ_apply']; rfl

/-- The solution of the block's system. -/
def solM (K V P Q M B : Mt) (g2 : Vc) : Mt := solve (rhsM K V Q M B g2 K) (-(had P (K * Kᵀ)))

theorem u6_cm : u6 (cm .f32 K) (cm .f32 V) (cm .f32 X) (ct P) (ct Q) (cc g2) (cst M) (cst B) = cm .f32 (solM K V P Q M B g2) := by
  rw [u6, sqs_cm, updU_cm]; rfl

theorem outH_cm : outH (cm .f32 K) (cm .f32 V) (cm .f32 X) (ct P) (ct Q) (cc g2) (cst M) (cst B)
    = cm .f32 (rhsM K V Q M B g2 X - had P (X * Kᵀ) * solM K V P Q M B g2) := by
  simp only [outH, mb_cm, rv_cm, sqm_cm, u6_cm, tab_ct, col_cc, cm_21, cm_22, cm_mulf, cm_subf, mul2_cm, cm_bot, cm_addf, rhsM]
  congr 1; abel

theorem upd_cm (U : Mt) : upd (cm .f32 K) (cm .f32 V) (cm .f32 X) (cc cP) (cc cQ) (cc dm) (cm .f32 U)
    = cm .f32 (hc (Kᵀ * (had (of fun i _ => cP i) U - had (of fun i _ => cQ i) V)) (Kᵀ * had (of fun i _ => dm i) (U - V))) := by
  have w : wv (cm .f32 V) (cc cP) (cc cQ) (cc dm) (cm .f32 U)
      = cm .f32 (hc (had (of fun i _ => cP i) U - had (of fun i _ => cQ i) V) (had (of fun i _ => dm i) (U - V))) := by
    rw [wv, col_cc, col_cc, col_cc, cm_mulf, cm_mulf, cm_subf, cm_subf, cm_mulf, cm_hc]
  rw [upd, w]
  simp only [knh_cm, knl_cm, cm_hi, cm_lo, cm_tn, cm_addf, mul_hc, transpose_zero,
    Matrix.mul_zero, Matrix.zero_mul, add_zero]

theorem memH_cm : memH (cm .f32 K) (cm .f32 V) (cm .f32 X) (ct P) (ct Q) (cc g2) (cc cP) (cc cQ) (cc dm) (cc a) (cst M) (cst B)
    = cst (M - had (of fun i _ => a i) B
        - Kᵀ * (had (of fun i _ => cP i) (solM K V P Q M B g2) - had (of fun i _ => cQ i) V)) := by
  simp only [memH, u6_cm, upd_cm, stm_cst, col_cc, cm_left', cm_mulf, cm_subf, cst_cast]
theorem bufH_cm : bufH (cm .f32 K) (cm .f32 V) (cm .f32 X) (ct P) (ct Q) (cc g2) (cc cP) (cc cQ) (cc dm) (cc m) (cst M) (cst B)
    = cst (had (of fun i _ => m i) B + Kᵀ * had (of fun i _ => dm i) (solM K V P Q M B g2 - V)) := by
  simp only [bufH, u6_cm, upd_cm, stm_cst, col_cc, cm_right', cm_mulf, cm_addf, cst_cast]

section
variable (lr mom : ℝ) (k v q : ℕ → Vc) (s : St)

/-- The block's system, from the recurrence's data. -/
theorem rhsM_eq (X : Mt) : rhsM (rows k) (rows v) (low (wQ lr mom)) s.1ᵀ s.2ᵀ (g2v lr mom) X = rhs lr mom k v s X := rfl
theorem solM_eq : solM (rows k) (rows v) (low (wP lr mom)) (low (wQ lr mom)) s.1ᵀ s.2ᵀ (g2v lr mom) = blockU lr mom k v s := rfl

/-- The outputs of a head: the memory read at each step. -/
theorem outH_real : outH (cm .f32 (rows k)) (cm .f32 (rows v)) (cm .f32 (rows q)) (ct (low (wP lr mom))) (ct (low (wQ lr mom)))
      (cc (g2v lr mom)) (cst s.1ᵀ) (cst s.2ᵀ)
    = cm .f32 (of fun i d => predOf (run lr mom k v s i.val).1 (q i.val) d : Mt) := by
  rw [outH_cm, rhsM_eq, solM_eq]
  congr 1; ext i d
  exact block_out lr mom k v q s i d

/-- The memory after the block. -/
theorem memH_real : memH (cm .f32 (rows k)) (cm .f32 (rows v)) (cm .f32 (rows q)) (ct (low (wP lr mom))) (ct (low (wQ lr mom)))
      (cc (g2v lr mom)) (cc (cPv lr mom)) (cc (cQv lr mom)) (cc (dmv mom)) (cc fun _ => lr * mom * geo mom 64) (cst s.1ᵀ) (cst s.2ᵀ)
    = cst ((run lr mom k v s 64).1)ᵀ := by
  rw [memH_cm, solM_eq]
  congr 1; ext j d
  exact block_mem lr mom k v s j d

/-- The momentum buffer after the block. -/
theorem bufH_real : bufH (cm .f32 (rows k)) (cm .f32 (rows v)) (cm .f32 (rows q)) (ct (low (wP lr mom))) (ct (low (wQ lr mom)))
      (cc (g2v lr mom)) (cc (cPv lr mom)) (cc (cQv lr mom)) (cc (dmv mom)) (cc fun _ => mom ^ 64) (cst s.1ᵀ) (cst s.2ᵀ)
    = cst ((run lr mom k v s 64).2)ᵀ := by
  rw [bufH_cm, solM_eq]
  congr 1; ext j d
  exact block_mbuf lr mom k v s j d
end

end Delta

end
-- ==== Proof.Delta.Tie.lean ====
/- Each copy of a head's computation in the printed scan body is the one function of `Head.lean`: what the body stores for
   head `h`, at a first point of a batch row (case A, the states copied in) and at a later one (case B). -/
module

public import proofs.«01_k».proof.Proof.Delta.Head
public import proofs.«01_k».proof.Proof.Gen.KernelIdeal.Frame
public import Idealize.ShloMosaic.Lib.WholeRead
public import Idealize.ShloMosaic.Lib.Pointwise
public import Idealize.ShloMosaic.Lib.Pipeline.ValueKit.Tiles

@[expose] public section

set_option maxRecDepth 16384

noncomputable section

namespace Delta

open Idealize.ShloMosaic Cert.KernelIdeal Cert.KernelIdeal.Gen

variable {F : FTy → Type} [FloatOps F]

theorem slH (h : Fin 8) : S64x512.Slices ![0, 64 * h.val] S64x64 := by revert h; decide
theorem inb3 (h : Fin 8) : ∀ a, (![h.val, 0, 0] : Fin 3 → ℕ) a + S1x64x64.size a ≤ S8x64x64.size a := by revert h; decide
theorem inbc (h : Fin 8) (j : Fin 6) : ∀ a, (![h.val, 0, j.val] : Fin 3 → ℕ) a + S1x64x1.size a ≤ S8x64x128.size a := by
  revert h j; decide
theorem inb4 (h : Fin 8) : ∀ a, (![0, h.val, 0, 0] : Fin 4 → ℕ) a + S1x1x64x64.size a ≤ S1x8x64x64.size a := by
  revert h; decide

/-- Head `h`'s lanes of a block of the three sequences. -/
def lanes (h : Fin 8) (x : FVec F S1x64x512 .f32) : FVec F S64x64 .f32 :=
  extractStridedSlice S64x64 ![0, 64 * h.val] (shapeCast S64x512 x shapeCasts_S1x64x512_S64x512) (slH h)
/-- Head `h`'s rectangle in a table, in a column of the column table, in a state. -/
abbrev rT (h : Fin 8) : Rect S8x64x64 := Rect.unit ![h.val, 0, 0] S1x64x64.size (inb3 h)
abbrev rC (h : Fin 8) (j : Fin 6) : Rect S8x64x128 := Rect.unit ![h.val, 0, j.val] S1x64x1.size (inbc h j)
abbrev rS (h : Fin 8) : Rect S1x8x64x64 := Rect.unit ![0, h.val, 0, 0] S1x1x64x64.size (inb4 h)
/-- The rectangle of a whole block of a sequence, and of a whole block of states. -/
abbrev rX : Rect S1x64x512 := Rect.unit ![0, 0, 0] S1x64x512.size inb_S1x64x512_S1x64x512_0_0_0
abbrev rW : Rect S1x8x64x64 := Rect.unit ![0, 0, 0, 0] S1x8x64x64.size inb_S1x8x64x64_S1x8x64x64_0_0_0_0

/-- What one grid point loads: the block of keys, values and queries, each head's two tables and six columns, and each
    head's two states. -/
structure Loads (F : FTy → Type) where
  kn : FVec F S1x64x512 .f32
  v : FVec F S1x64x512 .f32
  q : FVec F S1x64x512 .f32
  P : Fin 8 → FVec F S1x64x64 .f32
  Q : Fin 8 → FVec F S1x64x64 .f32
  C : Fin 8 → Fin 6 → FVec F S1x64x1 .f32
  M : Fin 8 → FVec F S1x1x64x64 .f32
  B : Fin 8 → FVec F S1x1x64x64 .f32

namespace Loads
variable (L : Loads F)
/-- Head `h`'s memory after the point. -/
def mem (h : Fin 8) : FVec F S1x1x64x64 .f32 :=
  memH (lanes h L.kn) (lanes h L.v) (lanes h L.q) (L.P h) (L.Q h) (L.C h 0) (L.C h 1) (L.C h 2) (L.C h 3) (L.C h 4) (L.M h) (L.B h)
/-- Head `h`'s momentum buffer after the point. -/
def buf (h : Fin 8) : FVec F S1x1x64x64 .f32 :=
  bufH (lanes h L.kn) (lanes h L.v) (lanes h L.q) (L.P h) (L.Q h) (L.C h 0) (L.C h 1) (L.C h 2) (L.C h 3) (L.C h 5) (L.M h) (L.B h)
/-- Head `h`'s outputs. -/
def out (h : Fin 8) : FVec F S64x64 .f32 :=
  outH (lanes h L.kn) (lanes h L.v) (lanes h L.q) (L.P h) (L.Q h) (L.C h 0) (L.M h) (L.B h)
/-- The outputs of all heads, side by side. -/
def outs : FVec F S1x64x512 .f32 :=
  shapeCast S1x64x512 (concatenate S64x512 1 [⟨S64x64, L.out 0⟩, ⟨S64x64, L.out 1⟩, ⟨S64x64, L.out 2⟩, ⟨S64x64, L.out 3⟩,
    ⟨S64x64, L.out 4⟩, ⟨S64x64, L.out 5⟩, ⟨S64x64, L.out 6⟩, ⟨S64x64, L.out 7⟩]
    concatenates_S64x64_S64x64_S64x64_S64x64_S64x64_S64x64_S64x64_S64x64_S64x512_d1) shapeCasts_S64x512_S1x64x512
/-- The stores of the memory, last first; of the momentum buffer. -/
def memPieces : List (View.Piece (Elt F) S1x8x64x64 .f32) := [⟨rS 7, L.mem 7⟩, ⟨rS 6, L.mem 6⟩, ⟨rS 5, L.mem 5⟩, ⟨rS 4, L.mem 4⟩,
  ⟨rS 3, L.mem 3⟩, ⟨rS 2, L.mem 2⟩, ⟨rS 1, L.mem 1⟩, ⟨rS 0, L.mem 0⟩]
def bufPieces : List (View.Piece (Elt F) S1x8x64x64 .f32) := [⟨rS 7, L.buf 7⟩, ⟨rS 6, L.buf 6⟩, ⟨rS 5, L.buf 5⟩, ⟨rS 4, L.buf 4⟩,
  ⟨rS 3, L.buf 3⟩, ⟨rS 2, L.buf 2⟩, ⟨rS 1, L.buf 1⟩, ⟨rS 0, L.buf 0⟩]
end Loads

/-- What is loaded of whole inputs through rectangles. -/
def loads (x0 x1 x2 : Vec F S1x64x512 .f32) (x3 x4 : Vec F S8x64x64 .f32) (x5 : Vec F S8x64x128 .f32)
    (m b : Vec F S1x8x64x64 .f32) : Loads F where
  kn := x0
  v := x1
  q := x2
  P := fun h j => x3 ((rT h).idx j)
  Q := fun h j => x4 ((rT h).idx j)
  C := fun h k j => x5 ((rC h k).idx j)
  M := fun h j => m ((rS h).idx j)
  B := fun h j => b ((rS h).idx j)

section
variable (c : Dev nD) (i : grid1.Coords)
  (arg2 : Memref sig .tc .vmem S1x64x512 .f32) (harg2 : arg2.IsWhole)
  (arg3 : Memref sig .tc .vmem S1x64x512 .f32) (harg3 : arg3.IsWhole)
  (arg4 : Memref sig .tc .vmem S1x64x512 .f32) (harg4 : arg4.IsWhole)
  (arg5 : Memref sig .tc .vmem S8x64x64 .f32) (harg5 : arg5.IsWhole)
  (arg6 : Memref sig .tc .vmem S8x64x64 .f32) (harg6 : arg6.IsWhole)
  (arg7 : Memref sig .tc .vmem S8x64x128 .f32) (harg7 : arg7.IsWhole)
  (arg8 : Memref sig .tc .vmem S1x8x64x64 .f32) (harg8 : arg8.IsWhole)
  (arg9 : Memref sig .tc .vmem S1x8x64x64 .f32) (harg9 : arg9.IsWhole)
  (arg10 : Memref sig .tc .vmem S1x64x512 .f32) (harg10 : arg10.IsWhole)
  (arg11 : Memref sig .tc .vmem S1x8x64x64 .f32) (harg11 : arg11.IsWhole)
  (arg12 : Memref sig .tc .vmem S1x8x64x64 .f32) (harg12 : arg12.IsWhole)
  (x0 : Vec F S1x64x512 .f32) (x1 : Vec F S1x64x512 .f32) (x2 : Vec F S1x64x512 .f32) (x3 : Vec F S8x64x64 .f32) (x4 : Vec F S8x64x64 .f32) (x5 : Vec F S8x64x128 .f32) (x6 : Vec F S1x8x64x64 .f32) (x7 : Vec F S1x8x64x64 .f32)
  (xo9 xo10 : Vec F S1x8x64x64 .f32)

/-- What is loaded of a whole input through a rectangle. -/
abbrev ldAt {s : Shape} (arg : Memref sig .tc .vmem s .f32) (harg : arg.IsWhole) (x : Vec F s .f32) (R : Rect s) :=
  View.readAt (Elt F) arg.view R.toLoadRect (harg.unread x)

theorem ldAt_eq {s : Shape} (arg : Memref sig .tc .vmem s .f32) (harg : arg.IsWhole) (x : Vec F s .f32) (R : Rect s) :
    ldAt arg harg x R = fun j => x (R.idx j) := funext fun j => harg.readAt_unread x R.toLoadRect j

theorem idx_rX (j : rX.shape.Idx) : rX.idx j = j := by
  funext a; apply Fin.ext; rw [Rect.idx_unit_val]; fin_cases a <;> exact Nat.zero_add _
theorem idx_rW (j : rW.shape.Idx) : rW.idx j = j := by
  funext a; apply Fin.ext; rw [Rect.idx_unit_val]; fin_cases a <;> exact Nat.zero_add _

/-- The loads of a point, as the run finds them, with the states as given. -/
def loadsAt (m b : Fin 8 → FVec F S1x1x64x64 .f32) : Loads F where
  kn := ldAt arg2 harg2 x0 rX
  v := ldAt arg3 harg3 x1 rX
  q := ldAt arg4 harg4 x2 rX
  P := fun h => ldAt arg5 harg5 x3 (rT h)
  Q := fun h => ldAt arg6 harg6 x4 (rT h)
  C := fun h k => ldAt arg7 harg7 x5 (rC h k)
  M := m
  B := b

/-- The states at a later point: loaded of what the point before left. -/
abbrev LB : Loads F := loadsAt arg2 harg2 arg3 harg3 arg4 harg4 arg5 harg5 arg6 harg6 arg7 harg7 x0 x1 x2 x3 x4 x5
  (fun h => ldAt arg11 harg11 xo9 (rS h)) (fun h => ldAt arg12 harg12 xo10 (rS h))

/-- The states at a first point: loaded of the copies just stored. -/
abbrev LA : Loads F := loadsAt arg2 harg2 arg3 harg3 arg4 harg4 arg5 harg5 arg6 harg6 arg7 harg7 x0 x1 x2 x3 x4 x5
  (fun h => arg11.view.readCov (kernelRun1_A.sl.H9_1 c arg8 harg8 x6) (rS h).toLoadRect)
  (fun h => arg12.view.readCov (kernelRun1_A.sl.H10_1 c arg9 harg9 x7) (rS h).toLoadRect)

theorem LB_eq : LB arg2 harg2 arg3 harg3 arg4 harg4 arg5 harg5 arg6 harg6 arg7 harg7 arg11 harg11 arg12 harg12 x0 x1 x2 x3 x4 x5 xo9 xo10
    = loads x0 x1 x2 x3 x4 x5 xo9 xo10 := by
  simp only [LB, loadsAt, loads, ldAt_eq, idx_rX]
  rfl

/-- The copies of the two initial states, stored first. -/
theorem H9_eq : kernelRun1_A.sl.H9_1 c arg8 harg8 x6 = [⟨rW, x6⟩] := by
  unfold kernelRun1_A.sl.H9_1 k1_pay4
  dsimp only
  rw [shapeCast_self]
  exact congrArg (fun w => [(⟨rW, w⟩ : View.Piece (Elt F) S1x8x64x64 .f32)]) ((ldAt_eq arg8 harg8 x6 rW).trans (funext fun j => congrArg x6 (idx_rW j)))
theorem H10_eq : kernelRun1_A.sl.H10_1 c arg9 harg9 x7 = [⟨rW, x7⟩] := by
  unfold kernelRun1_A.sl.H10_1 k1_pay5
  dsimp only
  rw [shapeCast_self]
  exact congrArg (fun w => [(⟨rW, w⟩ : View.Piece (Elt F) S1x8x64x64 .f32)]) ((ldAt_eq arg9 harg9 x7 rW).trans (funext fun j => congrArg x7 (idx_rW j)))

theorem LA_eq : LA c arg2 harg2 arg3 harg3 arg4 harg4 arg5 harg5 arg6 harg6 arg7 harg7 arg8 harg8 arg9 harg9 arg11 arg12 x0 x1 x2 x3 x4 x5 x6 x7
    = loads x0 x1 x2 x3 x4 x5 x6 x7 := by
  have hz : (![0, 0, 0, 0] : Fin 4 → ℕ) = fun _ => 0 := by funext a; fin_cases a <;> rfl
  simp only [LA, loadsAt, loads, ldAt_eq, idx_rX, H9_eq, H10_eq, View.readCov_eq_canon']
  congr 1 <;> funext h j <;>
    exact congrFun (View.canon_cons_unit_zero hz inb_S1x8x64x64_S1x8x64x64_0_0_0_0 _ []) _

theorem piecesB_8 (hc0 : ¬cond1_0 i) :
    (kernelRun1_B c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10).1
      = [⟨rX, Loads.outs (LB arg2 harg2 arg3 harg3 arg4 harg4 arg5 harg5 arg6 harg6 arg7 harg7 arg11 harg11 arg12 harg12 x0 x1 x2 x3 x4 x5 xo9 xo10)⟩] := by
  unfold kernelRun1_B Loads.outs Loads.out LB loadsAt
  dsimp only
  iterate 1
    refine congrArg₂ List.cons ?_ ?_
    · rfl
  rfl
theorem piecesB_9 (hc0 : ¬cond1_0 i) :
    (kernelRun1_B c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10).2.1
      = Loads.memPieces (LB arg2 harg2 arg3 harg3 arg4 harg4 arg5 harg5 arg6 harg6 arg7 harg7 arg11 harg11 arg12 harg12 x0 x1 x2 x3 x4 x5 xo9 xo10) := by
  unfold kernelRun1_B Loads.memPieces Loads.mem LB loadsAt
  dsimp only
  iterate 8
    refine congrArg₂ List.cons ?_ ?_
    · rfl
  rfl
theorem piecesB_10 (hc0 : ¬cond1_0 i) :
    (kernelRun1_B c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10).2.2.1
      = Loads.bufPieces (LB arg2 harg2 arg3 harg3 arg4 harg4 arg5 harg5 arg6 harg6 arg7 harg7 arg11 harg11 arg12 harg12 x0 x1 x2 x3 x4 x5 xo9 xo10) := by
  unfold kernelRun1_B Loads.bufPieces Loads.buf LB loadsAt
  dsimp only
  iterate 8
    refine congrArg₂ List.cons ?_ ?_
    · rfl
  rfl

theorem piecesA_8 (hc0 : cond1_0 i) :
    (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).1
      = [⟨rX, Loads.outs (LA c arg2 harg2 arg3 harg3 arg4 harg4 arg5 harg5 arg6 harg6 arg7 harg7 arg8 harg8 arg9 harg9 arg11 arg12 x0 x1 x2 x3 x4 x5 x6 x7)⟩] := by
  unfold kernelRun1_A Loads.outs Loads.out LA loadsAt
  dsimp only
  iterate 1
    refine congrArg₂ List.cons ?_ ?_
    · rfl
  rfl
theorem piecesA_9 (hc0 : cond1_0 i) :
    (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.1
      = Loads.memPieces (LA c arg2 harg2 arg3 harg3 arg4 harg4 arg5 harg5 arg6 harg6 arg7 harg7 arg8 harg8 arg9 harg9 arg11 arg12 x0 x1 x2 x3 x4 x5 x6 x7) ++ kernelRun1_A.sl.H9_1 c arg8 harg8 x6 := by
  unfold kernelRun1_A Loads.memPieces Loads.mem LA loadsAt
  dsimp only
  iterate 8
    refine congrArg₂ List.cons ?_ ?_
    · rfl
  rfl
theorem piecesA_10 (hc0 : cond1_0 i) :
    (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1
      = Loads.bufPieces (LA c arg2 harg2 arg3 harg3 arg4 harg4 arg5 harg5 arg6 harg6 arg7 harg7 arg8 harg8 arg9 harg9 arg11 arg12 x0 x1 x2 x3 x4 x5 x6 x7) ++ kernelRun1_A.sl.H10_1 c arg9 harg9 x7 := by
  unfold kernelRun1_A Loads.bufPieces Loads.buf LA loadsAt
  dsimp only
  iterate 8
    refine congrArg₂ List.cons ?_ ?_
    · rfl
  rfl

end

/-- Stores of the heads' blocks, over any earlier stores, read back at an index: that head's block there. -/
theorem canon_heads (w : Fin 8 → FVec F S1x1x64x64 .f32) (T : List (View.Piece (Elt F) S1x8x64x64 .f32)) (y : S1x8x64x64.Idx) :
    View.canon (((List.finRange 8).reverse.map fun h => (⟨rS h, w h⟩ : View.Piece (Elt F) S1x8x64x64 .f32)) ++ T) y
      = w (y 1) (ix4 0 0 (y 2) (y 3)) := by
  have key : ∀ l : List (Fin 8), (y 1 : Fin 8) ∈ l →
      View.canon ((l.map fun h => (⟨rS h, w h⟩ : View.Piece (Elt F) S1x8x64x64 .f32)) ++ T) y = w (y 1) (ix4 0 0 (y 2) (y 3)) := by
    intro l hl
    induction l with
    | nil => exact absurd hl List.not_mem_nil
    | cons h l ih =>
      rw [List.map_cons, List.cons_append]
      by_cases hh : (y 1 : Fin 8) = h
      · have e : y = (rS h).emb (ix4 0 0 (y 2) (y 3)) := by
          funext a; apply Fin.ext
          have := Rect.idx_unit_val (s := S1x8x64x64) ![0, h.val, 0, 0] S1x1x64x64.size (inb4 h) (ix4 0 0 (y 2) (y 3)) a
          refine Eq.trans ?_ this.symm
          fin_cases a
          · have := (y 0).isLt; change (y 0).val < 1 at this; change (y 0).val = 0 + 0; omega
          · change (y 1).val = h.val + 0; rw [← hh]; rfl
          · change (y 2).val = 0 + (y 2).val; omega
          · change (y 3).val = 0 + (y 3).val; omega
        conv_lhs => rw [e]
        rw [View.canon_cons_emb, hh]
      · rw [View.canon_cons_of_not_mem]
        · rcases List.mem_cons.1 hl with h' | h'
          · exact absurd h' hh
          · exact ih h'
        · intro hm
          have := (Rect.mem_set_unit (inb := inb4 h)).1 hm 1
          change h.val ≤ (y 1).val ∧ (y 1).val < h.val + 1 at this
          exact hh (Fin.ext (by omega))
  exact key _ (List.mem_reverse.2 (List.mem_finRange (y 1 : Fin 8)))

section
variable (c : Dev nD) (i : grid1.Coords)
  (arg2 : Memref sig .tc .vmem S1x64x512 .f32) (harg2 : arg2.IsWhole)
  (arg3 : Memref sig .tc .vmem S1x64x512 .f32) (harg3 : arg3.IsWhole)
  (arg4 : Memref sig .tc .vmem S1x64x512 .f32) (harg4 : arg4.IsWhole)
  (arg5 : Memref sig .tc .vmem S8x64x64 .f32) (harg5 : arg5.IsWhole)
  (arg6 : Memref sig .tc .vmem S8x64x64 .f32) (harg6 : arg6.IsWhole)
  (arg7 : Memref sig .tc .vmem S8x64x128 .f32) (harg7 : arg7.IsWhole)
  (arg8 : Memref sig .tc .vmem S1x8x64x64 .f32) (harg8 : arg8.IsWhole)
  (arg9 : Memref sig .tc .vmem S1x8x64x64 .f32) (harg9 : arg9.IsWhole)
  (arg10 : Memref sig .tc .vmem S1x64x512 .f32) (harg10 : arg10.IsWhole)
  (arg11 : Memref sig .tc .vmem S1x8x64x64 .f32) (harg11 : arg11.IsWhole)
  (arg12 : Memref sig .tc .vmem S1x8x64x64 .f32) (harg12 : arg12.IsWhole)
  (x0 : Vec F S1x64x512 .f32) (x1 : Vec F S1x64x512 .f32) (x2 : Vec F S1x64x512 .f32) (x3 : Vec F S8x64x64 .f32) (x4 : Vec F S8x64x64 .f32) (x5 : Vec F S8x64x128 .f32) (x6 : Vec F S1x8x64x64 .f32) (x7 : Vec F S1x8x64x64 .f32)
  (xo9 xo10 : Vec F S1x8x64x64 .f32)

theorem hz4 : (![0, 0, 0] : Fin 3 → ℕ) = fun _ => 0 := by funext a; fin_cases a <;> rfl

theorem outB_8 (hc0 : ¬cond1_0 i) : out1_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10
    = (loads x0 x1 x2 x3 x4 x5 xo9 xo10).outs := by
  funext y
  unfold out1_B_8
  rw [View.read_writes_junk_apply_eq_canon, piecesB_8, LB_eq]
  exact congrFun (View.canon_cons_unit_zero hz4 inb_S1x64x512_S1x64x512_0_0_0 _ []) _
theorem outB_9 (hc0 : ¬cond1_0 i) (y : S1x8x64x64.Idx) : out1_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10 y
    = (loads x0 x1 x2 x3 x4 x5 xo9 xo10).mem (y 1) (ix4 0 0 (y 2) (y 3)) := by
  unfold out1_B_9
  rw [View.read_writes_junk_apply_eq_canon, piecesB_9, LB_eq]
  exact (congrArg (View.canon · y) (List.append_nil _).symm).trans (canon_heads _ [] y)
theorem outB_10 (hc0 : ¬cond1_0 i) (y : S1x8x64x64.Idx) : out1_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10 y
    = (loads x0 x1 x2 x3 x4 x5 xo9 xo10).buf (y 1) (ix4 0 0 (y 2) (y 3)) := by
  unfold out1_B_10
  rw [View.read_writes_junk_apply_eq_canon, piecesB_10, LB_eq]
  exact (congrArg (View.canon · y) (List.append_nil _).symm).trans (canon_heads _ [] y)
theorem outA_8 (hc0 : cond1_0 i) : out1_A_8 c i arg2 harg2 arg3 harg3 arg4 harg4 arg5 harg5 arg6 harg6 arg7 harg7 arg8 harg8 arg9 harg9 arg10 harg10 arg11 harg11 arg12 harg12 hc0 x0 x1 x2 x3 x4 x5 x6 x7
    = (loads x0 x1 x2 x3 x4 x5 x6 x7).outs := by
  funext y
  unfold out1_A_8
  rw [View.read_writes_junk_apply_eq_canon, piecesA_8, LA_eq]
  exact congrFun (View.canon_cons_unit_zero hz4 inb_S1x64x512_S1x64x512_0_0_0 _ []) _
theorem outA_9 (hc0 : cond1_0 i) (y : S1x8x64x64.Idx) : out1_A_9 c i arg2 harg2 arg3 harg3 arg4 harg4 arg5 harg5 arg6 harg6 arg7 harg7 arg8 harg8 arg9 harg9 arg10 harg10 arg11 harg11 arg12 harg12 hc0 x0 x1 x2 x3 x4 x5 x6 x7 y
    = (loads x0 x1 x2 x3 x4 x5 x6 x7).mem (y 1) (ix4 0 0 (y 2) (y 3)) := by
  unfold out1_A_9
  rw [View.read_writes_junk_apply_eq_canon, piecesA_9, LA_eq]
  exact canon_heads _ _ y
theorem outA_10 (hc0 : cond1_0 i) (y : S1x8x64x64.Idx) : out1_A_10 c i arg2 harg2 arg3 harg3 arg4 harg4 arg5 harg5 arg6 harg6 arg7 harg7 arg8 harg8 arg9 harg9 arg10 harg10 arg11 harg11 arg12 harg12 hc0 x0 x1 x2 x3 x4 x5 x6 x7 y
    = (loads x0 x1 x2 x3 x4 x5 x6 x7).buf (y 1) (ix4 0 0 (y 2) (y 3)) := by
  unfold out1_A_10
  rw [View.read_writes_junk_apply_eq_canon, piecesA_10, LA_eq]
  exact canon_heads _ _ y
end

end Delta

end
-- ==== Proof.Delta.Point.lean ====
/- One grid point of the scan on real data, all heads: the heads' outputs and states, at an index. -/
module

public import proofs.«01_k».proof.Proof.Delta.HeadValue
public import proofs.«01_k».proof.Proof.Delta.Tie

@[expose] public section

set_option maxRecDepth 16384

noncomputable section

namespace Delta

open Idealize.ShloMosaic Cert.KernelIdeal Cert.KernelIdeal.Gen Matrix

/-- The head a lane of the eight heads' lanes belongs to, and its lane there. -/
def hd (l : Fin 512) : Fin 8 := ⟨l.val / 64, by omega⟩
def ln (l : Fin 512) : Fin 64 := ⟨l.val % 64, by omega⟩

theorem lanes_real (x : Fin 64 → Fin 8 → Vc) (h : Fin 8) :
    lanes h (fun j : S1x64x512.Idx => ((x (j 1) (hd (j 2)) (ln (j 2)) : ℝ) : EReal) : FVec Ideal S1x64x512 .f32)
      = cm .f32 (of fun i l => x i h l : Mt) := by
  funext j; idx_vars j
  unfold lanes
  pointwise [cm]
  have e1 : hd ⟨64 * h.val + j1.val, by omega⟩ = h := Fin.ext (by show (64 * h.val + j1.val) / 64 = h.val; omega)
  have e2 : ln ⟨64 * h.val + j1.val, by omega⟩ = j1 := Fin.ext (by show (64 * h.val + j1.val) % 64 = j1.val; omega)
  rw [e1, e2]; rfl

/-- The eight heads' outputs, side by side, at an index: the lane's head's output. -/
theorem outs_apply (L : Loads Ideal) (y : S1x64x512.Idx) : L.outs y = L.out (hd (y 2)) (ix2 (y 1) (ln (y 2))) := by
  obtain ⟨y0, y1, y2, rfl⟩ : ∃ a b c, y = ix3 a b c := ⟨y 0, y 1, y 2, eq_ix3 y⟩
  have hz : ∀ (Z : FVec Ideal S64x512 .f32) (h : S64x512.ShapeCasts S1x64x512), shapeCast S1x64x512 Z h (ix3 y0 y1 y2) = Z (ix2 y1 y2) := by
    intro Z h; pointwise
  refine (hz _ _).trans ?_
  refine concatenate_ofFn_apply (s₁ := S64x64) (t := S64x512) 1 (N := 8) (fun h => L.out h) _ rfl 64 rfl (ix2 y1 y2 : S64x512.Idx) (hd y2) rfl (ix2 y1 (ln y2)) rfl ?_
  intro b hb
  fin_cases b
  · rfl
  · exact absurd rfl hb

/-- The real data of one grid point: the block's keys, values and queries, by row, head and lane; the per-head step sizes
    and momenta; each head's states. -/
structure PointData where
  k : ℕ → Fin 8 → Vc
  v : ℕ → Fin 8 → Vc
  q : ℕ → Fin 8 → Vc
  lr : Fin 8 → ℝ
  mom : Fin 8 → ℝ
  s : Fin 8 → St

/-- A block of a sequence. -/
def seqB (x : ℕ → Fin 8 → Vc) : FVec Ideal S1x64x512 .f32 := fun j => ((x (j 1).val (hd (j 2)) (ln (j 2)) : ℝ) : EReal)
/-- The heads' states, transposed. -/
def stB (x : Fin 8 → Mt) : FVec Ideal S1x8x64x64 .f32 := fun j => ((x (j 1) (j 3) (j 2) : ℝ) : EReal)

/-- The tables that belong to step sizes `lr` and momenta `mom`: the two triangular tables and the six columns. -/
structure Tables (lr mom : Fin 8 → ℝ) (P Q : FVec Ideal S8x64x64 .f32) (C : FVec Ideal S8x64x128 .f32) : Prop where
  P : ∀ h i r, P (ix3 h i r) = ((low (wP (lr h) (mom h)) i r : ℝ) : EReal)
  Q : ∀ h i r, Q (ix3 h i r) = ((low (wQ (lr h) (mom h)) i r : ℝ) : EReal)
  c0 : ∀ h i, C (ix3 h i 0) = ((g2v (lr h) (mom h) i : ℝ) : EReal)
  c1 : ∀ h i, C (ix3 h i 1) = ((cPv (lr h) (mom h) i : ℝ) : EReal)
  c2 : ∀ h i, C (ix3 h i 2) = ((cQv (lr h) (mom h) i : ℝ) : EReal)
  c3 : ∀ h i, C (ix3 h i 3) = ((dmv (mom h) i : ℝ) : EReal)
  c4 : ∀ h i, C (ix3 h i 4) = ((lr h * mom h * geo (mom h) 64 : ℝ) : EReal)
  c5 : ∀ h i, C (ix3 h i 5) = ((mom h ^ 64 : ℝ) : EReal)

section
variable (D : PointData) {P Q : FVec Ideal S8x64x64 .f32} {C : FVec Ideal S8x64x128 .f32} (T : Tables D.lr D.mom P Q C)

/-- The loads of a point on real data. -/
abbrev ldD (P Q : FVec Ideal S8x64x64 .f32) (C : FVec Ideal S8x64x128 .f32) : Loads Ideal :=
  loads (seqB D.k) (seqB D.v) (seqB D.q) P Q C (stB fun h => (D.s h).1) (stB fun h => (D.s h).2)

theorem idx_rT (h : Fin 8) (a : Fin 1) (i r : Fin 64) : (rT h).idx (ix3 a i r) = (ix3 h i r : S8x64x64.Idx) := by
  funext b; apply Fin.ext; rw [Rect.idx_unit_val]
  match b with
  | ⟨0, _⟩ => show h.val + a.val = h.val; omega
  | ⟨1, _⟩ => show 0 + i.val = i.val; omega
  | ⟨2, _⟩ => show 0 + r.val = r.val; omega
theorem idx_rC (h : Fin 8) (k : Fin 6) (a : Fin 1) (i : Fin 64) (z : Fin 1) :
    (rC h k).idx (ix3 a i z) = (ix3 h i ⟨k.val, by omega⟩ : S8x64x128.Idx) := by
  funext b; apply Fin.ext; rw [Rect.idx_unit_val]
  match b with
  | ⟨0, _⟩ => show h.val + a.val = h.val; omega
  | ⟨1, _⟩ => show 0 + i.val = i.val; omega
  | ⟨2, _⟩ => show k.val + z.val = k.val; omega
theorem idx_rS (h : Fin 8) (a b : Fin 1) (i r : Fin 64) : (rS h).idx (ix4 a b i r) = (ix4 0 h i r : S1x8x64x64.Idx) := by
  funext c; apply Fin.ext; rw [Rect.idx_unit_val]
  match c with
  | ⟨0, _⟩ => show 0 + a.val = 0; omega
  | ⟨1, _⟩ => show h.val + b.val = h.val; omega
  | ⟨2, _⟩ => show 0 + i.val = i.val; omega
  | ⟨3, _⟩ => show 0 + r.val = r.val; omega

/-- A table's, a column's and a state's part of one head. -/
theorem tab_of (X : FVec Ideal S8x64x64 .f32) (h : Fin 8) (M : Mt) (hX : ∀ i r, X (ix3 h i r) = ((M i r : ℝ) : EReal)) :
    (fun j => X ((rT h).idx j) : FVec Ideal S1x64x64 .f32) = ct M := by
  funext j; idx_vars j; rw [idx_rT]; exact hX _ _
theorem col_of (X : FVec Ideal S8x64x128 .f32) (h : Fin 8) (k : Fin 6) (w : Vc)
    (hX : ∀ i, X (ix3 h i ⟨k.val, by omega⟩) = ((w i : ℝ) : EReal)) :
    (fun j => X ((rC h k).idx j) : FVec Ideal S1x64x1 .f32) = cc w := by
  funext j; idx_vars j; rw [idx_rC]; exact hX _
theorem st_of (x : Fin 8 → Mt) (h : Fin 8) : (fun j => stB x ((rS h).idx j) : FVec Ideal S1x1x64x64 .f32) = cst (x h)ᵀ := by
  funext j; idx_vars j; rw [idx_rS]; rfl
theorem lanes_seqB (x : ℕ → Fin 8 → Vc) (h : Fin 8) : lanes h (seqB x) = cm .f32 (rows fun i => x i h) :=
  lanes_real (fun i => x i.val) h

include T

theorem out_point (h : Fin 8) : (ldD D P Q C).out h
    = cm .f32 (of fun i d => predOf (run (D.lr h) (D.mom h) (D.k · h) (D.v · h) (D.s h) i.val).1 (D.q i.val h) d : Mt) := by
  unfold Loads.out
  dsimp only [ldD, loads]
  rw [lanes_seqB, lanes_seqB, lanes_seqB, tab_of P h _ (T.P h), tab_of Q h _ (T.Q h), col_of C h 0 _ (T.c0 h), st_of, st_of]
  exact outH_real ..
theorem mem_point (h : Fin 8) : (ldD D P Q C).mem h
    = cst ((run (D.lr h) (D.mom h) (D.k · h) (D.v · h) (D.s h) 64).1)ᵀ := by
  unfold Loads.mem
  dsimp only [ldD, loads]
  rw [lanes_seqB, lanes_seqB, lanes_seqB, tab_of P h _ (T.P h), tab_of Q h _ (T.Q h), col_of C h 0 _ (T.c0 h),
    col_of C h 1 _ (T.c1 h), col_of C h 2 _ (T.c2 h), col_of C h 3 _ (T.c3 h), col_of C h 4 _ (T.c4 h), st_of, st_of]
  exact memH_real ..
theorem buf_point (h : Fin 8) : (ldD D P Q C).buf h
    = cst ((run (D.lr h) (D.mom h) (D.k · h) (D.v · h) (D.s h) 64).2)ᵀ := by
  unfold Loads.buf
  dsimp only [ldD, loads]
  rw [lanes_seqB, lanes_seqB, lanes_seqB, tab_of P h _ (T.P h), tab_of Q h _ (T.Q h), col_of C h 0 _ (T.c0 h),
    col_of C h 1 _ (T.c1 h), col_of C h 2 _ (T.c2 h), col_of C h 3 _ (T.c3 h), col_of C h 5 _ (T.c5 h), st_of, st_of]
  exact bufH_real ..

end

end Delta

end
-- ==== Proof.Delta.Norm.lean ====
/- Layer normalisation and the normalisation of a key, of one head's vector of real numbers; the key's gain and bias may be
   infinite. No program occurs here. -/
module

public import proofs.«01_k».proof.Proof.Delta.Math
public import Mathlib.Analysis.SpecialFunctions.Pow.Real
public import Mathlib.Data.EReal.Operations

@[expose] public section

noncomputable section

namespace Delta

open Finset Matrix

/-- The value of the number written `1e-5` at single precision. -/
def e5 : ℝ := 10995116 / 2 ^ 40
/-- The value of the number written `1e-6` at single precision. -/
def e6 : ℝ := 8796093 / 2 ^ 43
theorem e5_pos : 0 < e5 := by unfold e5; norm_num
theorem e6_pos : 0 < e6 := by unfold e6; norm_num

/-- A vector's mean. -/
def mean (u : Vc) : ℝ := (∑ d, u d) * (1 / 64)
/-- A vector's variance. -/
def var (u : Vc) : ℝ := (∑ d, (u d - mean u) * (u d - mean u)) * (1 / 64)

theorem var_nonneg (u : Vc) : 0 ≤ var u :=
  mul_nonneg (sum_nonneg fun _ _ => mul_self_nonneg _) (by norm_num)

/-- The variance is the mean of the squares less the square of the mean. -/
theorem var_eq (u : Vc) : (∑ d, u d * u d) * (1 / 64) - mean u * mean u = var u := by
  have h : ∑ d, (u d - mean u) * (u d - mean u) = (∑ d, u d * u d) - 2 * mean u * (∑ d, u d) + 64 * (mean u * mean u) := by
    rw [mul_sum, ← sum_sub_distrib]
    have : (64 : ℝ) * (mean u * mean u) = ∑ _d : Fin 64, mean u * mean u := by simp
    rw [this, ← sum_add_distrib]
    exact sum_congr rfl fun d _ => by ring
  have hm : ∑ d, u d = 64 * mean u := by unfold mean; ring
  rw [var, h, hm]; ring

/-- Layer normalisation with gain `g` and bias `b`. -/
def lnR (u g b : Vc) : Vc := fun d => (u d - mean u) * (Real.sqrt (var u + e5))⁻¹ * g d + b d

/-- A vector's Euclidean norm. -/
def nm (u : Vc) : ℝ := Real.sqrt (∑ d, u d * u d)
/-- A vector divided by its norm, the norm raised a little. -/
def unitR (u : Vc) : Vc := fun d => u d * (1 / (nm u + e6))

theorem nm_pos (u : Vc) : 0 < nm u + e6 := add_pos_of_nonneg_of_pos (Real.sqrt_nonneg _) e6_pos

/-- Layer normalisation of a real vector with a gain and a bias that may be infinite. -/
def lnE (u : Vc) (g b : Fin 64 → EReal) : Fin 64 → EReal := fun d => (((u d - mean u) * (Real.sqrt (var u + e5))⁻¹ : ℝ) : EReal) * g d + b d

theorem lnE_real (u g b : Vc) (d : Fin 64) : lnE u (fun d => (g d : EReal)) (fun d => (b d : EReal)) d = ((lnR u g b d : ℝ) : EReal) := by
  unfold lnE lnR; rw [EReal.coe_add, EReal.coe_mul _ (g d)]

open Classical in
/-- A vector divided by its norm, the norm raised a little. One with an infinite entry has an infinite norm: it goes to zero. -/
def unitE (w : Fin 64 → EReal) : Vc := if ∀ d, w d = ((w d).toReal : EReal) then unitR fun d => (w d).toReal else 0

theorem unitE_real {w : Fin 64 → EReal} (h : ∀ d, w d = ((w d).toReal : EReal)) : unitE w = unitR fun d => (w d).toReal := if_pos h
theorem unitE_inf {w : Fin 64 → EReal} (h : ¬∀ d, w d = ((w d).toReal : EReal)) : unitE w = 0 := if_neg h

/-- The square of an infinite entry. -/
theorem inf_sq {w : Fin 64 → EReal} (h : ¬∀ d, w d = ((w d).toReal : EReal)) : ∃ d, w d * w d = ⊤ := by
  obtain ⟨d, hd⟩ := not_forall.mp h
  refine ⟨d, ?_⟩
  generalize w d = x at hd ⊢
  induction x with
  | bot => exact EReal.bot_mul_bot
  | coe r => exact absurd rfl hd
  | top => exact EReal.top_mul_top

/-- A sum of squares one of which is infinite. -/
theorem sq_sum_top {w : Fin 64 → EReal} (h : ¬∀ d, w d = ((w d).toReal : EReal)) : ∑ d, w d * w d = ⊤ := by
  obtain ⟨d, hd⟩ := inf_sq h
  refine top_le_iff.mp (hd ▸ single_le_sum (f := fun d => w d * w d) (fun i _ => ?_) (mem_univ d))
  rcases le_total 0 (w i) with e | e
  · exact EReal.mul_nonneg e e
  · exact EReal.mul_nonneg_iff.mpr (Or.inr ⟨e, e⟩)

/-- A sum one of whose terms is the least element. -/
theorem sum_bot {n : ℕ} {f : Fin n → EReal} (d : Fin n) (h : f d = ⊥) : ∑ i, f i = ⊥ := by
  rw [← add_sum_erase _ _ (mem_univ d), h, EReal.bot_add]

/-- One head's part of a row of a product. -/
def prj (x : Fin 1024 → ℝ) (W : Fin 1024 → Fin 512 → ℝ) (l : Fin 512) : ℝ := ∑ i, x i * W i l

end Delta

end
-- ==== Proof.Delta.Region0.lean ====
/- The projections' pipeline on real data: each row's three products, layer-normalised by heads, and the key brought to
   length one. -/
module

public import proofs.«01_k».proof.Proof.Delta.Point
public import proofs.«01_k».proof.Proof.Delta.Norm

@[expose] public section

set_option maxRecDepth 16384

noncomputable section

namespace Delta

open Idealize.ShloMosaic Idealize.ShloMosaic.TcCoe Cert.KernelIdeal Cert.KernelIdeal.Gen Matrix Finset
open Idealize.SL Idealize.SL.Sem

/-! ### The body's operations, named -/

/-- A constant over a block. -/
def kst {F : FTy → Type} [FloatOps F] (w : BitVec 32) : FVec F S256x512 .f32 := broadcast S256x512 (Scalar.ofBits .f32 w)

section
variable {F : FTy → Type} [FloatOps F]
/-- Sums over each head's lanes, spread over them. -/
def gsum (t : FVec F S256x512 .f32) (e : FVec F S512x512 .bf16) : FVec F S256x512 .f32 :=
  addf (matmul dot_S256x512_S512x512_S256x512_1_0_0_1_n_n none (hi t) e (zer S256x512))
    (matmul dot_S256x512_S512x512_S256x512_1_0_0_1_n_n none (lo t) e (zer S256x512))
/-- A block's projection. -/
def prjV (x : Vec F S256x1024 .f32) (W : Vec F S1024x512 .f32) : FVec F S256x512 .f32 :=
  matmul dot_S256x1024_S1024x512_S256x512_1_0_0_1_n_n none (hi (shapeCast S256x1024 x shapeCasts_S256x1024_S256x1024)) (hi W) (zer S256x512)
/-- Layer normalisation by heads. -/
def lnV (t : FVec F S256x512 .f32) (e : FVec F S512x512 .bf16) (g b : Vec F S1x512 .f32) : FVec F S256x512 .f32 :=
  let m := mulf (gsum t e) (kst 0x3C800000#32)
  addf (mulf (mulf (subf t m) (rsqrt (addf (subf (mulf (gsum (mulf t t) e) (kst 0x3C800000#32)) (mulf m m)) (kst 0x3727C5AC#32))))
    (broadcastTo S256x512 (shapeCast S1x512 g shapeCasts_S1x512_S1x512) broadcasts_S1x512_S256x512))
    (broadcastTo S256x512 (shapeCast S1x512 b shapeCasts_S1x512_S1x512) broadcasts_S1x512_S256x512)
/-- Each head's vector brought to length one. -/
def unitV (k : FVec F S256x512 .f32) (e : FVec F S512x512 .bf16) : FVec F S256x512 .f32 :=
  mulf k (divf (kst 0x3F800000#32) (addf (sqrt (gsum (mulf k k) e)) (kst 0x358637BD#32)))

variable (x0 : Vec F S256x1024 .f32) (x1 x2 x3 : Vec F S1024x512 .f32) (x4 : Vec F S512x512 .bf16) (x5 x6 : Vec F S8x1536 .f32)

/-- The three windows' contents, by these names. -/
theorem out0_7_eq : out0_7 x0 x1 x2 x3 x4 x5 x6 = View.canon [⟨r0_4, unitV (lnV (prjV (View.ld x0 r0_0) (View.ld x1 r0_2))
    (shapeCast S512x512 (View.ld x4 r0_1) shapeCasts_S512x512_S512x512) (View.ld x5 r0_3) (View.ld x6 r0_3))
    (shapeCast S512x512 (View.ld x4 r0_1) shapeCasts_S512x512_S512x512)⟩] := rfl
theorem out0_8_eq : out0_8 x0 x1 x2 x3 x4 x5 x6 = View.canon [⟨r0_4, lnV (prjV (View.ld x0 r0_0) (View.ld x2 r0_2))
    (shapeCast S512x512 (View.ld x4 r0_1) shapeCasts_S512x512_S512x512) (View.ld x5 r0_5) (View.ld x6 r0_5)⟩] := rfl
theorem out0_9_eq : out0_9 x0 x1 x2 x3 x4 x5 x6 = View.canon [⟨r0_4, lnV (prjV (View.ld x0 r0_0) (View.ld x3 r0_2))
    (shapeCast S512x512 (View.ld x4 r0_1) shapeCasts_S512x512_S512x512) (View.ld x5 r0_6) (View.ld x6 r0_6)⟩] := rfl
end

/-! ### On real data -/

/-- Row vectors by heads, as a block. -/
def rh (R : Fin 256 → Fin 8 → Vc) : Matrix (Fin 256) (Fin 512) ℝ := of fun r l => R r (hd l) (ln l)
/-- The matrix that sums over heads: one where the two lanes belong to one head. -/
def blk : Matrix (Fin 512) (Fin 512) ℝ := of fun i j => if hd i = hd j then 1 else 0
/-- A row of lanes. -/
def rl (w : Vc) : FVec Ideal S1x512 .f32 := fun j => ((w (ln (j 1)) : ℝ) : EReal)

/-- Rows of any numbers by heads, and a row of lanes. -/
def ra (K : Fin 256 → Fin 8 → Fin 64 → EReal) : FVec Ideal S256x512 .f32 := fun j => K (j 0) (hd (j 1)) (ln (j 1))
def rlE (w : Fin 64 → EReal) : FVec Ideal S1x512 .f32 := fun j => w (ln (j 1))

/-- A sum over the lanes of one head. -/
theorem sum_hd (f : Fin 8 → Fin 64 → ℝ) (h : Fin 8) :
    ∑ l : Fin 512, f (hd l) (ln l) * (if hd l = h then 1 else 0) = ∑ d, f h d := by
  have e1 : ∀ p : Fin 8 × Fin 64, hd (finProdFinEquiv p : Fin (8 * 64)) = p.1 := fun p =>
    Fin.ext (by show (p.2.val + 64 * p.1.val) / 64 = p.1.val; have := p.2.isLt; omega)
  have e2 : ∀ p : Fin 8 × Fin 64, ln (finProdFinEquiv p : Fin (8 * 64)) = p.2 := fun p =>
    Fin.ext (by show (p.2.val + 64 * p.1.val) % 64 = p.2.val; have := p.2.isLt; omega)
  rw [← (finProdFinEquiv (m := 8) (n := 64)).sum_comp, Fintype.sum_prod_type]
  simp only [e1, e2]
  rw [sum_eq_single h]
  · simp
  · intro b _ hb; simp [hb]
  · simp

/-- The same of any numbers. -/
theorem sum_hdE (f : Fin 8 → Fin 64 → EReal) (h : Fin 8) :
    ∑ l : Fin 512, f (hd l) (ln l) * (((if hd l = h then 1 else 0 : ℝ)) : EReal) = ∑ d, f h d := by
  have e1 : ∀ p : Fin 8 × Fin 64, hd (finProdFinEquiv p : Fin (8 * 64)) = p.1 := fun p =>
    Fin.ext (by show (p.2.val + 64 * p.1.val) / 64 = p.1.val; have := p.2.isLt; omega)
  have e2 : ∀ p : Fin 8 × Fin 64, ln (finProdFinEquiv p : Fin (8 * 64)) = p.2 := fun p =>
    Fin.ext (by show (p.2.val + 64 * p.1.val) % 64 = p.2.val; have := p.2.isLt; omega)
  rw [← (finProdFinEquiv (m := 8) (n := 64)).sum_comp, Fintype.sum_prod_type]
  simp only [e1, e2]
  rw [sum_eq_single h]
  · simp
  · intro b _ hb; simp [hb]
  · simp

theorem cm_dot512 (A : Matrix (Fin 256) (Fin 512) ℝ) (B : Matrix (Fin 512) (Fin 512) ℝ) :
    matmul dot_S256x512_S512x512_S256x512_1_0_0_1_n_n none (cm .bf16 A) (cm .bf16 B) (zer S256x512) = cm .f32 (A * B) := by
  funext j; idx_vars j; pointwise [cm, zer]
  exact coe_dot _ _
theorem cm_dot1024 (A : Matrix (Fin 256) (Fin 1024) ℝ) (B : Matrix (Fin 1024) (Fin 512) ℝ) :
    matmul dot_S256x1024_S1024x512_S256x512_1_0_0_1_n_n none (cm .bf16 A) (cm .bf16 B) (zer S256x512) = cm .f32 (A * B) := by
  funext j; idx_vars j; pointwise [cm, zer]
  exact coe_dot _ _

theorem gsum_real (R : Fin 256 → Fin 8 → Vc) : gsum (cm .f32 (rh R)) (cm .bf16 blk) = cm .f32 (rh fun r h _ => ∑ d, R r h d) := by
  rw [gsum, cm_hi, cm_lo, cm_dot512, cm_dot512, cm_addf]
  congr 1
  ext r l
  rw [Matrix.zero_mul, add_zero, Matrix.mul_apply]
  exact sum_hd (R r) (hd l)

/-- The sums over heads of any numbers: the high parts are the numbers, the low parts their differences with themselves. -/
theorem gsum_any (K : Fin 256 → Fin 8 → Fin 64 → EReal) (r : Fin 256) (l : Fin 512) :
    gsum (ra K) (cm .bf16 blk) (ix2 r l) = ∑ d, K r (hd l) d + ∑ d, (K r (hd l) d - K r (hd l) d) := by
  have e : gsum (ra K) (cm .bf16 blk) (ix2 r l)
      = ∑ i : Fin 512, K r (hd i) (ln i) * (((if hd i = hd l then 1 else 0 : ℝ)) : EReal)
        + ∑ i : Fin 512, (K r (hd i) (ln i) - K r (hd i) (ln i)) * (((if hd i = hd l then 1 else 0 : ℝ)) : EReal) := by
    unfold gsum
    pointwise [hi, lo, zer]
    rfl
  rw [e, sum_hdE (fun h d => K r h d), sum_hdE (fun h d => K r h d - K r h d)]

theorem k64 : Ideal.ofBits .f32 0x3C800000#32 = ((1 / 64 : ℝ) : EReal) := by
  simp [Ideal.ofBits, Ideal.ieee, -EReal.coe_mul]; norm_num
theorem k5 : Ideal.ofBits .f32 0x3727C5AC#32 = ((e5 : ℝ) : EReal) := by
  unfold e5; simp [Ideal.ofBits, Ideal.ieee, -EReal.coe_mul]; norm_num
theorem k6 : Ideal.ofBits .f32 0x358637BD#32 = ((e6 : ℝ) : EReal) := by
  unfold e6; simp [Ideal.ofBits, Ideal.ieee, -EReal.coe_mul]; norm_num

theorem kst64 : (kst 0x3C800000#32 : FVec Ideal S256x512 .f32) = cm .f32 (rh fun _ _ _ => 1 / 64) := funext fun _ => k64
theorem kst5 : (kst 0x3727C5AC#32 : FVec Ideal S256x512 .f32) = cm .f32 (rh fun _ _ _ => e5) := funext fun _ => k5
theorem kst6 : (kst 0x358637BD#32 : FVec Ideal S256x512 .f32) = cm .f32 (rh fun _ _ _ => e6) := funext fun _ => k6
theorem kst1 : (kst 0x3F800000#32 : FVec Ideal S256x512 .f32) = cm .f32 (rh fun _ _ _ => 1) := funext fun _ => Ideal.ofBits_one_f32

theorem rh_mul (R R' : Fin 256 → Fin 8 → Vc) : mulf (cm .f32 (rh R)) (cm .f32 (rh R')) = cm .f32 (rh fun r h d => R r h d * R' r h d) := cm_mulf _ _
theorem rh_sub (R R' : Fin 256 → Fin 8 → Vc) : subf (cm .f32 (rh R)) (cm .f32 (rh R')) = cm .f32 (rh fun r h d => R r h d - R' r h d) := cm_subf _ _
theorem rh_add (R R' : Fin 256 → Fin 8 → Vc) : addf (cm .f32 (rh R)) (cm .f32 (rh R')) = cm .f32 (rh fun r h d => R r h d + R' r h d) := cm_addf _ _
theorem rh_rsqrt (R : Fin 256 → Fin 8 → Vc) (hR : ∀ r h d, 0 < R r h d) :
    rsqrt (cm .f32 (rh R)) = cm .f32 (rh fun r h d => (Real.sqrt (R r h d))⁻¹) := by
  funext j
  obtain ⟨r, l, rfl⟩ : ∃ r l, j = ix2 r l := ⟨j 0, j 1, eq_ix2 j⟩
  show Ideal.rsqrt ((R r (hd l) (ln l) : ℝ) : EReal) = _
  rw [Ideal.rsqrt_coe, if_neg (not_lt.mpr (hR _ _ _).le), if_neg (hR _ _ _).ne']; rfl
theorem rh_sqrt (R : Fin 256 → Fin 8 → Vc) (hR : ∀ r h d, 0 ≤ R r h d) :
    sqrt (cm .f32 (rh R)) = cm .f32 (rh fun r h d => Real.sqrt (R r h d)) := by
  funext j
  obtain ⟨r, l, rfl⟩ : ∃ r l, j = ix2 r l := ⟨j 0, j 1, eq_ix2 j⟩
  show Ideal.sqrt ((R r (hd l) (ln l) : ℝ) : EReal) = _
  rw [Ideal.sqrt_coe, if_neg (not_lt.mpr (hR _ _ _))]; rfl
theorem rh_div (R R' : Fin 256 → Fin 8 → Vc) (hR : ∀ r h d, R' r h d ≠ 0) :
    divf (cm .f32 (rh R)) (cm .f32 (rh R')) = cm .f32 (rh fun r h d => R r h d * (1 / R' r h d)) := by
  funext j
  obtain ⟨r, l, rfl⟩ : ∃ r l, j = ix2 r l := ⟨j 0, j 1, eq_ix2 j⟩
  show Ideal.div ((R r (hd l) (ln l) : ℝ) : EReal) ((R' r (hd l) (ln l) : ℝ) : EReal) = _
  rw [Ideal.div_coe (hR _ _ _)]; exact (EReal.coe_mul _ _).symm
theorem rlE_rows (w : Fin 64 → EReal) : broadcastTo S256x512 (shapeCast S1x512 (rlE w) shapeCasts_S1x512_S1x512) broadcasts_S1x512_S256x512
    = ra fun _ _ => w := by
  funext j; idx_vars j; pointwise [ra, rlE]

theorem lnV_any (R : Fin 256 → Fin 8 → Vc) (g b : Fin 64 → EReal) :
    lnV (cm .f32 (rh R)) (cm .bf16 blk) (rlE g) (rlE b) = ra fun r h => lnE (R r h) g b := by
  have e : (fun r h (_ : Fin 64) => (∑ d, R r h d * R r h d) * (1 / 64) - (∑ d, R r h d) * (1 / 64) * ((∑ d, R r h d) * (1 / 64)))
      = fun r h (_ : Fin 64) => var (R r h) := by
    funext r h _; exact var_eq (R r h)
  unfold lnV
  dsimp only
  rw [rlE_rows, rlE_rows, kst64, kst5, gsum_real, rh_mul, rh_mul, gsum_real, rh_mul, rh_mul, rh_sub, rh_sub, e, rh_add, rh_rsqrt,
    rh_mul]
  · rfl
  · intro r h _; exact add_pos_of_nonneg_of_pos (var_nonneg _) e5_pos

theorem lnV_real (R : Fin 256 → Fin 8 → Vc) (g b : Vc) :
    lnV (cm .f32 (rh R)) (cm .bf16 blk) (rl g) (rl b) = cm .f32 (rh fun r h => lnR (R r h) g b) :=
  (lnV_any R (fun d => (g d : EReal)) fun d => (b d : EReal)).trans (funext fun j => lnE_real (R (j 0) (hd (j 1))) g b (ln (j 1)))

/-- Each head's vector over its norm: one with an infinite entry goes to zero. -/
theorem unitV_any (K : Fin 256 → Fin 8 → Fin 64 → EReal) : unitV (ra K) (cm .bf16 blk) = cm .f32 (rh fun r h => unitE (K r h)) := by
  funext j
  obtain ⟨r, l, rfl⟩ : ∃ r l, j = ix2 r l := ⟨j 0, j 1, eq_ix2 j⟩
  show K r (hd l) (ln l) * Ideal.div (Ideal.ofBits .f32 0x3F800000#32)
    (Ideal.sqrt (gsum (ra fun r h d => K r h d * K r h d) (cm .bf16 blk) (ix2 r l)) + Ideal.ofBits .f32 0x358637BD#32)
      = ((unitE (K r (hd l)) (ln l) : ℝ) : EReal)
  rw [gsum_any, k6, Ideal.ofBits_one_f32]
  generalize K r (hd l) = w
  by_cases h : ∀ d, w d = ((w d).toReal : EReal)
  · have e1 : ∑ d, w d * w d = ((∑ d, (w d).toReal * (w d).toReal : ℝ) : EReal) := by
      rw [coe_sum]; exact sum_congr rfl fun d _ => by rw [EReal.coe_mul, ← h d]
    have e2 : ∑ d, (w d * w d - w d * w d) = 0 := sum_eq_zero fun d _ => by
      rw [h d, ← EReal.coe_mul, ← EReal.coe_sub, sub_self, EReal.coe_zero]
    rw [e1, e2, add_zero, Ideal.sqrt_coe, if_neg (not_lt.mpr (sum_nonneg fun _ _ => mul_self_nonneg _)), ← EReal.coe_add,
      unitE_real h, h (ln l)]
    have hn : Real.sqrt (∑ d, (w d).toReal * (w d).toReal) + e6 ≠ 0 := (nm_pos fun d => (w d).toReal).ne'
    rw [Ideal.div_coe hn, one_mul]
    exact (EReal.coe_mul _ _).symm
  · obtain ⟨d, hd⟩ := inf_sq h
    have e : ∑ d, (w d * w d - w d * w d) = ⊥ := sum_bot d (by rw [hd]; rfl)
    rw [e, EReal.add_bot, unitE_inf h]
    show w (ln l) * Ideal.div 1 ((⊥ : EReal) + _) = _
    rw [EReal.bot_add, Ideal.div, if_neg (by simp), EReal.inv_bot, mul_zero, mul_zero]
    rfl

/-! ### The arrays -/

theorem pos0_0 : ∀ t : Fin cfg0.N, win0_0.index t = ![t.val, 0] := by decide +kernel
theorem pos0_1 : ∀ t : Fin cfg0.N, win0_1.index t = ![0, 0] := by decide +kernel
theorem pos0_2 : ∀ t : Fin cfg0.N, win0_2.index t = ![0, 0] := by decide +kernel
theorem pos0_3 : ∀ t : Fin cfg0.N, win0_3.index t = ![0, 0] := by decide +kernel
theorem pos0_4 : ∀ t : Fin cfg0.N, win0_4.index t = ![0, 0] := by decide +kernel
theorem pos0_5 : ∀ t : Fin cfg0.N, win0_5.index t = ![0, 0] := by decide +kernel
theorem pos0_6 : ∀ t : Fin cfg0.N, win0_6.index t = ![0, 0] := by decide +kernel
theorem pos0_7 : ∀ t : Fin cfg0.N, win0_7.index t = ![t.val, 0] := by decide +kernel
theorem pos0_8 : ∀ t : Fin cfg0.N, win0_8.index t = ![t.val, 0] := by decide +kernel
theorem pos0_9 : ∀ t : Fin cfg0.N, win0_9.index t = ![t.val, 0] := by decide +kernel

/-- The projections' data: the rows, the three weights, the gains and the biases. -/
structure ProjData where
  x : ℕ → Fin 1024 → ℝ
  Wk : Fin 1024 → Fin 512 → ℝ
  Wv : Fin 1024 → Fin 512 → ℝ
  Wq : Fin 1024 → Fin 512 → ℝ
  gk : Fin 64 → EReal
  bk : Fin 64 → EReal
  gv : Vc
  bv : Vc
  gq : Vc
  bq : Vc

/-- A head's lane among all heads' lanes. -/
def lane (h : Fin 8) (d : Fin 64) : Fin 512 := ⟨64 * h.val + d.val, by omega⟩
theorem lane_hd (l : Fin 512) : lane (hd l) (ln l) = l := Fin.ext (by show 64 * (l.val / 64) + l.val % 64 = l.val; omega)
theorem hd_lane (h : Fin 8) (d : Fin 64) : hd (lane h d) = h := Fin.ext (by show (64 * h.val + d.val) / 64 = h.val; omega)
theorem ln_lane (h : Fin 8) (d : Fin 64) : ln (lane h d) = d := Fin.ext (by show (64 * h.val + d.val) % 64 = d.val; omega)

/-- One head's part of a row's product with a weight. -/
def prjH (x : Fin 1024 → ℝ) (W : Fin 1024 → Fin 512 → ℝ) (h : Fin 8) : Vc := fun d => prj x W (lane h d)

namespace ProjData
variable (D : ProjData)
/-- A row's layer-normalised key, value and query, by head. -/
def k (n : ℕ) (h : Fin 8) : Fin 64 → EReal := lnE (prjH (D.x n) D.Wk h) D.gk D.bk
def v (n : ℕ) (h : Fin 8) : Vc := lnR (prjH (D.x n) D.Wv h) D.gv D.bv
def q (n : ℕ) (h : Fin 8) : Vc := lnR (prjH (D.x n) D.Wq h) D.gq D.bq
/-- The key at length one. -/
def kn (n : ℕ) (h : Fin 8) : Vc := unitE (D.k n h)
end ProjData

/-- Rows by heads. -/
def seq2 (x : ℕ → Fin 8 → Vc) : FVec Ideal S8192x512 .f32 := fun j => ((x (j 0).val (hd (j 1)) (ln (j 1)) : ℝ) : EReal)

theorem prjV_real (X : Fin 256 → Fin 1024 → ℝ) (W : Fin 1024 → Fin 512 → ℝ) :
    prjV (cm .f32 (of X)) (cm .f32 (of W)) = cm .f32 (rh fun r h => prjH (X r) W h) := by
  rw [prjV, shapeCast_id, cm_hi, cm_hi, cm_dot1024]
  congr 1
  ext r l
  show (of X * of W : Matrix _ _ ℝ) r l = prj (X r) W (lane (hd l) (ln l))
  rw [lane_hd, Matrix.mul_apply]; rfl

section
variable (V : (c : Dev nD) → (b : Ref sig .tc) → Buf (Elt Ideal) ((c : Thread nD τ).loc b)) (c : Dev nD) (D : ProjData)

/-- The arrays the projections start from hold their data. -/
structure Holds0 : Prop where
  x : V c main_v0 = (fun j : S8192x1024.Idx => ((D.x (j 0).val (j 1) : ℝ) : EReal))
  Wk : V c main_arg3 = cm .f32 (of D.Wk)
  Wv : V c main_arg4 = cm .f32 (of D.Wv)
  Wq : V c main_arg5 = cm .f32 (of D.Wq)
  blk : V c main_v8 = cm .bf16 blk
  gk : ∀ l : Fin 512, V c main_v21 (ix2 0 ⟨l.val, by omega⟩ : S8x1536.Idx) = D.gk (ln l)
  gv : ∀ l : Fin 512, V c main_v21 (ix2 0 ⟨512 + l.val, by omega⟩ : S8x1536.Idx) = ((D.gv (ln l) : ℝ) : EReal)
  gq : ∀ l : Fin 512, V c main_v21 (ix2 0 ⟨1024 + l.val, by omega⟩ : S8x1536.Idx) = ((D.gq (ln l) : ℝ) : EReal)
  bk : ∀ l : Fin 512, V c main_v34 (ix2 0 ⟨l.val, by omega⟩ : S8x1536.Idx) = D.bk (ln l)
  bv : ∀ l : Fin 512, V c main_v34 (ix2 0 ⟨512 + l.val, by omega⟩ : S8x1536.Idx) = ((D.bv (ln l) : ℝ) : EReal)
  bq : ∀ l : Fin 512, V c main_v34 (ix2 0 ⟨1024 + l.val, by omega⟩ : S8x1536.Idx) = ((D.bq (ln l) : ℝ) : EReal)

variable {V c D} (H : Holds0 V c D)

theorem x_block (x : ℕ → Fin 1024 → ℝ) (t : Fin cfg0.N) (i : S8192x1024.Idx) (j : S256x1024.Idx)
    (h0 : (i 0).val = t.val * 256 + 1 * (j 0).val) (h1 : (i 1).val = 0 * 1024 + 1 * (j 1).val) :
    ((x (i 0).val (i 1) : ℝ) : EReal) = (cm .f32 (of fun r : Fin 256 => x (256 * t.val + r.val)) : FVec Ideal S256x1024 .f32) j := by
  have e1 : (i 1 : Fin 1024) = j 1 := Fin.ext (by omega)
  show _ = ((x (256 * t.val + (j 0).val) (j 1) : ℝ) : EReal)
  rw [show (i 0).val = 256 * t.val + (j 0).val by omega, e1]

/-- A window of one block that is its array. -/
theorem one_idx {a b : ℕ} (i j : (⟨2, ![a, b]⟩ : Shape).Idx) (h0 : (i 0).val = 0 * a + 1 * (j 0).val)
    (h1 : (i 1).val = 0 * b + 1 * (j 1).val) : i = j := by
  funext k; apply Fin.ext
  match k with
  | ⟨0, _⟩ => show (i 0).val = (j 0).val; omega
  | ⟨1, _⟩ => show (i 1).val = (j 1).val; omega

include H in
theorem in0_0 (t : Fin cfg0.N) : (iblk0 V c 0 t : FVec Ideal S256x1024 .f32) = cm .f32 (of fun r => D.x (256 * t.val + r.val)) := by
  funext j
  unfold iblk0
  rw [View.read_apply]
  show V c main_v0 _ = _
  rw [H.x]
  exact x_block D.x t _ j (congrArg (· * 256 + 1 * (j 0).val) (congrFun (pos0_0 t) 0))
    (congrArg (· * 1024 + 1 * (j 1).val) (congrFun (pos0_0 t) 1))
theorem in0_1 (t : Fin cfg0.N) : (iblk0 V c 1 t : FVec Ideal S1024x512 .f32) = V c main_arg3 := by
  funext j
  unfold iblk0
  rw [View.read_apply]
  show V c main_arg3 _ = V c main_arg3 j
  exact congrArg (V c main_arg3) (one_idx _ _ (congrArg (· * 1024 + 1 * (j 0).val) (congrFun (pos0_1 t) 0))
    (congrArg (· * 512 + 1 * (j 1).val) (congrFun (pos0_1 t) 1)))
theorem in0_2 (t : Fin cfg0.N) : (iblk0 V c 2 t : FVec Ideal S1024x512 .f32) = V c main_arg4 := by
  funext j
  unfold iblk0
  rw [View.read_apply]
  show V c main_arg4 _ = V c main_arg4 j
  exact congrArg (V c main_arg4) (one_idx _ _ (congrArg (· * 1024 + 1 * (j 0).val) (congrFun (pos0_2 t) 0))
    (congrArg (· * 512 + 1 * (j 1).val) (congrFun (pos0_2 t) 1)))
theorem in0_3 (t : Fin cfg0.N) : (iblk0 V c 3 t : FVec Ideal S1024x512 .f32) = V c main_arg5 := by
  funext j
  unfold iblk0
  rw [View.read_apply]
  show V c main_arg5 _ = V c main_arg5 j
  exact congrArg (V c main_arg5) (one_idx _ _ (congrArg (· * 1024 + 1 * (j 0).val) (congrFun (pos0_3 t) 0))
    (congrArg (· * 512 + 1 * (j 1).val) (congrFun (pos0_3 t) 1)))
theorem in0_4 (t : Fin cfg0.N) : (iblk0 V c 4 t : FVec Ideal S512x512 .bf16) = V c main_v8 := by
  funext j
  unfold iblk0
  rw [View.read_apply]
  show V c main_v8 _ = V c main_v8 j
  exact congrArg (V c main_v8) (one_idx _ _ (congrArg (· * 512 + 1 * (j 0).val) (congrFun (pos0_4 t) 0))
    (congrArg (· * 512 + 1 * (j 1).val) (congrFun (pos0_4 t) 1)))
theorem in0_5 (t : Fin cfg0.N) : (iblk0 V c 5 t : FVec Ideal S8x1536 .f32) = V c main_v21 := by
  funext j
  unfold iblk0
  rw [View.read_apply]
  show V c main_v21 _ = V c main_v21 j
  exact congrArg (V c main_v21) (one_idx _ _ (congrArg (· * 8 + 1 * (j 0).val) (congrFun (pos0_5 t) 0))
    (congrArg (· * 1536 + 1 * (j 1).val) (congrFun (pos0_5 t) 1)))
theorem in0_6 (t : Fin cfg0.N) : (iblk0 V c 6 t : FVec Ideal S8x1536 .f32) = V c main_v34 := by
  funext j
  unfold iblk0
  rw [View.read_apply]
  show V c main_v34 _ = V c main_v34 j
  exact congrArg (V c main_v34) (one_idx _ _ (congrArg (· * 8 + 1 * (j 0).val) (congrFun (pos0_6 t) 0))
    (congrArg (· * 1536 + 1 * (j 1).val) (congrFun (pos0_6 t) 1)))

/-- A row of the gains or biases, as loaded. -/
theorem row_ld (X : FVec Ideal S8x1536 .f32) (o : ℕ) (ho : o + 512 ≤ 1536) (hz) (w : Fin 64 → EReal)
    (hX : ∀ l : Fin 512, X (ix2 0 ⟨o + l.val, by omega⟩) = w (ln l)) :
    View.ld (Val := Elt Ideal) (e' := .f32) X (Rect.unit (s := S8x1536) ![0, o] S1x512.size hz) = rlE w := by
  funext j
  obtain ⟨a, l, rfl⟩ : ∃ a l, j = ix2 a l := ⟨j 0, j 1, eq_ix2 j⟩
  refine Eq.trans ?_ (hX l)
  refine congrArg X ?_
  funext k; apply Fin.ext; rw [Rect.idx_unit_val]
  match k with
  | ⟨0, _⟩ => show 0 + a.val = 0; omega
  | ⟨1, _⟩ => rfl

theorem hz2 : (![0, 0] : Fin 2 → ℕ) = fun _ => 0 := by funext a; fin_cases a <;> rfl
theorem ld_zero {S : Shape} {e : EltTy} (X : S.Idx → Elt Ideal e) {off : Fin S.rank → ℕ} (h : off = fun _ => 0) (hz) :
    View.ld (Val := Elt Ideal) X (Rect.unit (s := S) off S.size hz) = X := by
  subst h
  funext j
  refine congrArg X ?_
  funext k; apply Fin.ext; rw [Rect.idx_unit_val]
  show 0 + (j k).val = (j k).val; omega
theorem ld_whole0 (X : FVec Ideal S256x1024 .f32) : View.ld (Val := Elt Ideal) (e' := .f32) X r0_0 = X := ld_zero (e := .f32) X hz2 _
theorem ld_whole1 (X : FVec Ideal S1024x512 .f32) : View.ld (Val := Elt Ideal) (e' := .f32) X r0_2 = X := ld_zero (e := .f32) X hz2 _
theorem ld_whole2 (X : FVec Ideal S512x512 .bf16) : View.ld (Val := Elt Ideal) (e' := .bf16) X r0_1 = X := ld_zero (e := .bf16) X hz2 _
theorem ld_rows (w : FVec Ideal S256x512 .f32) : View.canon (Val := Elt Ideal) (e := .f32) [⟨r0_4, w⟩] = w :=
  View.canon_cons_unit_zero (Val := Elt Ideal) (S := S256x512) (e := .f32) hz2 inb_S256x512_S256x512_0_0 w []

theorem blk_cast : shapeCast S512x512 (cm .bf16 blk) shapeCasts_S512x512_S512x512 = cm .bf16 blk := shapeCast_self _ _

/-- The body's three results on real blocks. -/
theorem out0_7_real (X : Fin 256 → Fin 1024 → ℝ) (W : Fin 1024 → Fin 512 → ℝ) (x2 x3 : FVec Ideal S1024x512 .f32)
    (x5 x6 : FVec Ideal S8x1536 .f32) (g b : Fin 64 → EReal) (h5 : View.ld (Val := Elt Ideal) (e' := .f32) x5 r0_3 = rlE g)
    (h6 : View.ld (Val := Elt Ideal) (e' := .f32) x6 r0_3 = rlE b) :
    out0_7 (F := Ideal) (cm .f32 (of X)) (cm .f32 (of W)) x2 x3 (cm .bf16 blk) x5 x6 = cm .f32 (rh fun r h => unitE (lnE (prjH (X r) W h) g b)) := by
  rw [out0_7_eq, ld_rows, h5, h6, ld_whole0, ld_whole1, ld_whole2, blk_cast, prjV_real, lnV_any, unitV_any]
theorem out0_8_real (X : Fin 256 → Fin 1024 → ℝ) (W : Fin 1024 → Fin 512 → ℝ) (x1 x3 : FVec Ideal S1024x512 .f32)
    (x5 x6 : FVec Ideal S8x1536 .f32) (g b : Vc) (h5 : View.ld (Val := Elt Ideal) (e' := .f32) x5 r0_5 = rl g)
    (h6 : View.ld (Val := Elt Ideal) (e' := .f32) x6 r0_5 = rl b) :
    out0_8 (F := Ideal) (cm .f32 (of X)) x1 (cm .f32 (of W)) x3 (cm .bf16 blk) x5 x6 = cm .f32 (rh fun r h => lnR (prjH (X r) W h) g b) := by
  rw [out0_8_eq, ld_rows, h5, h6, ld_whole0, ld_whole1, ld_whole2, blk_cast, prjV_real, lnV_real]
theorem out0_9_real (X : Fin 256 → Fin 1024 → ℝ) (W : Fin 1024 → Fin 512 → ℝ) (x1 x2 : FVec Ideal S1024x512 .f32)
    (x5 x6 : FVec Ideal S8x1536 .f32) (g b : Vc) (h5 : View.ld (Val := Elt Ideal) (e' := .f32) x5 r0_6 = rl g)
    (h6 : View.ld (Val := Elt Ideal) (e' := .f32) x6 r0_6 = rl b) :
    out0_9 (F := Ideal) (cm .f32 (of X)) x1 x2 (cm .f32 (of W)) (cm .bf16 blk) x5 x6 = cm .f32 (rh fun r h => lnR (prjH (X r) W h) g b) := by
  rw [out0_9_eq, ld_rows, h5, h6, ld_whole0, ld_whole1, ld_whole2, blk_cast, prjV_real, lnV_real]

include H

/-- What the body leaves at point `t`: its 256 rows' keys, values and queries. -/
theorem left0_7 (t : Fin cfg0.N) : out0_7 (iblk0 V c 0 t) (iblk0 V c 1 t) (iblk0 V c 2 t) (iblk0 V c 3 t) (iblk0 V c 4 t) (iblk0 V c 5 t) (iblk0 V c 6 t)
    = cm .f32 (rh fun r => D.kn (256 * t.val + r.val)) := by
  rw [in0_0 H, in0_1, in0_4, in0_5, in0_6, H.Wk, H.blk]
  exact out0_7_real _ D.Wk _ _ _ _ _ _ (row_ld _ 0 (by omega) _ _ (fun l => by simpa using H.gk l)) (row_ld _ 0 (by omega) _ _ (fun l => by simpa using H.bk l))
theorem left0_8 (t : Fin cfg0.N) : out0_8 (iblk0 V c 0 t) (iblk0 V c 1 t) (iblk0 V c 2 t) (iblk0 V c 3 t) (iblk0 V c 4 t) (iblk0 V c 5 t) (iblk0 V c 6 t)
    = cm .f32 (rh fun r => D.v (256 * t.val + r.val)) := by
  rw [in0_0 H, in0_2, in0_4, in0_5, in0_6, H.Wv, H.blk]
  exact out0_8_real _ D.Wv _ _ _ _ _ _ (row_ld _ 512 (by omega) _ (fun d => (D.gv d : EReal)) H.gv) (row_ld _ 512 (by omega) _ (fun d => (D.bv d : EReal)) H.bv)
theorem left0_9 (t : Fin cfg0.N) : out0_9 (iblk0 V c 0 t) (iblk0 V c 1 t) (iblk0 V c 2 t) (iblk0 V c 3 t) (iblk0 V c 4 t) (iblk0 V c 5 t) (iblk0 V c 6 t)
    = cm .f32 (rh fun r => D.q (256 * t.val + r.val)) := by
  rw [in0_0 H, in0_3, in0_4, in0_5, in0_6, H.Wq, H.blk]
  exact out0_9_real _ D.Wq _ _ _ _ _ _ (row_ld _ 1024 (by omega) _ (fun d => (D.gq d : EReal)) H.gq) (row_ld _ 1024 (by omega) _ (fun d => (D.bq d : EReal)) H.bq)

omit H in
theorem rows_block (x : ℕ → Fin 8 → Vc) (t : Fin cfg0.N) (i : S8192x512.Idx) (j : S256x512.Idx)
    (h0 : (i 0).val = t.val * 256 + 1 * (j 0).val) (h1 : (i 1).val = 0 * 512 + 1 * (j 1).val) :
    (cm .f32 (rh fun r => x (256 * t.val + r.val)) : FVec Ideal S256x512 .f32) j = seq2 x i := by
  have e1 : (i 1 : Fin 512) = j 1 := Fin.ext (by omega)
  show ((x (256 * t.val + (j 0).val) (hd (j 1)) (ln (j 1)) : ℝ) : EReal) = _
  unfold seq2
  rw [show (i 0).val = 256 * t.val + (j 0).val by omega, e1]

/-- The keys' array. -/
theorem arr0_7 : (dat0 V c).arrAt 7 cfg0.N = seq2 D.kn := by
  refine (dat0 V c).arrAt_eq_of_cover 7 (seq2 D.kn) (fun t _ => ?_) fun i => ?_
  · show (cfg0.win 7).cut (grid0.coords t) ((dat0 V c).after 7 t) = _
    rw [after0_7, left0_7 H]
    funext j
    rw [View.read_apply]
    exact rows_block D.kn t _ j (congrArg (· * 256 + 1 * (j 0).val) (congrFun (pos0_7 t) 0))
      (congrArg (· * 512 + 1 * (j 1).val) (congrFun (pos0_7 t) 1))
  · have h0 : (i 0 : ℕ) < 8192 := (i 0).isLt
    have h1 : (i 1 : ℕ) < 512 := (i 1).isLt
    let t : Fin cfg0.N := ⟨(i 0).val / 256, by rw [show cfg0.N = 32 from N_0]; omega⟩
    refine ⟨t, flush0_7 t, ?_⟩
    show i ∈ ((View.whole main_v162_0).slice (win0_7.rect t)).set
    rw [View.set_slice_whole, Rect.mem_set_unit]
    have p0 : win0_7.index t 0 = (i 0).val / 256 := congrFun (pos0_7 t) 0
    have p1 : win0_7.index t 1 = 0 := congrFun (pos0_7 t) 1
    intro a
    match a with
    | ⟨0, _⟩ => show win0_7.index t 0 * 256 ≤ (i 0 : ℕ) ∧ (i 0 : ℕ) < win0_7.index t 0 * 256 + 256; omega
    | ⟨1, _⟩ => show win0_7.index t 1 * 512 ≤ (i 1 : ℕ) ∧ (i 1 : ℕ) < win0_7.index t 1 * 512 + 512; omega
/-- The values' array. -/
theorem arr0_8 : (dat0 V c).arrAt 8 cfg0.N = seq2 D.v := by
  refine (dat0 V c).arrAt_eq_of_cover 8 (seq2 D.v) (fun t _ => ?_) fun i => ?_
  · show (cfg0.win 8).cut (grid0.coords t) ((dat0 V c).after 8 t) = _
    rw [after0_8, left0_8 H]
    funext j
    rw [View.read_apply]
    exact rows_block D.v t _ j (congrArg (· * 256 + 1 * (j 0).val) (congrFun (pos0_8 t) 0))
      (congrArg (· * 512 + 1 * (j 1).val) (congrFun (pos0_8 t) 1))
  · have h0 : (i 0 : ℕ) < 8192 := (i 0).isLt
    have h1 : (i 1 : ℕ) < 512 := (i 1).isLt
    let t : Fin cfg0.N := ⟨(i 0).val / 256, by rw [show cfg0.N = 32 from N_0]; omega⟩
    refine ⟨t, flush0_8 t, ?_⟩
    show i ∈ ((View.whole main_v162_1).slice (win0_8.rect t)).set
    rw [View.set_slice_whole, Rect.mem_set_unit]
    have p0 : win0_8.index t 0 = (i 0).val / 256 := congrFun (pos0_8 t) 0
    have p1 : win0_8.index t 1 = 0 := congrFun (pos0_8 t) 1
    intro a
    match a with
    | ⟨0, _⟩ => show win0_8.index t 0 * 256 ≤ (i 0 : ℕ) ∧ (i 0 : ℕ) < win0_8.index t 0 * 256 + 256; omega
    | ⟨1, _⟩ => show win0_8.index t 1 * 512 ≤ (i 1 : ℕ) ∧ (i 1 : ℕ) < win0_8.index t 1 * 512 + 512; omega
/-- The queries' array. -/
theorem arr0_9 : (dat0 V c).arrAt 9 cfg0.N = seq2 D.q := by
  refine (dat0 V c).arrAt_eq_of_cover 9 (seq2 D.q) (fun t _ => ?_) fun i => ?_
  · show (cfg0.win 9).cut (grid0.coords t) ((dat0 V c).after 9 t) = _
    rw [after0_9, left0_9 H]
    funext j
    rw [View.read_apply]
    exact rows_block D.q t _ j (congrArg (· * 256 + 1 * (j 0).val) (congrFun (pos0_9 t) 0))
      (congrArg (· * 512 + 1 * (j 1).val) (congrFun (pos0_9 t) 1))
  · have h0 : (i 0 : ℕ) < 8192 := (i 0).isLt
    have h1 : (i 1 : ℕ) < 512 := (i 1).isLt
    let t : Fin cfg0.N := ⟨(i 0).val / 256, by rw [show cfg0.N = 32 from N_0]; omega⟩
    refine ⟨t, flush0_9 t, ?_⟩
    show i ∈ ((View.whole main_v162_2).slice (win0_9.rect t)).set
    rw [View.set_slice_whole, Rect.mem_set_unit]
    have p0 : win0_9.index t 0 = (i 0).val / 256 := congrFun (pos0_9 t) 0
    have p1 : win0_9.index t 1 = 0 := congrFun (pos0_9 t) 1
    intro a
    match a with
    | ⟨0, _⟩ => show win0_9.index t 0 * 256 ≤ (i 0 : ℕ) ∧ (i 0 : ℕ) < win0_9.index t 0 * 256 + 256; omega
    | ⟨1, _⟩ => show win0_9.index t 1 * 512 ≤ (i 1 : ℕ) ∧ (i 1 : ℕ) < win0_9.index t 1 * 512 + 512; omega
end

end Delta

end
-- ==== Proof.Delta.Tables.lean ====
/- The scan's rates and the host's tables: what the lines before the first call leave. -/
module

public import proofs.«01_k».proof.Proof.Delta.HostOps
public import proofs.«01_k».proof.Proof.Delta.Region0
public import Idealize.ShloMosaic.Lib.StableHlo.RunRead

@[expose] public section

set_option maxRecDepth 16384

noncomputable section

namespace Delta

open Idealize.ShloMosaic Cert.KernelIdeal Cert.KernelIdeal.Gen
open StableHlo (after)
open Matrix (of)
open Finset

/-- The logistic function's real value. -/
def sg (x : EReal) : ℝ := (Ideal.div 1 (1 + Ideal.exp (-x))).toReal
/-- The logistic function of any extended real is a real number. -/
theorem sg_eq (x : EReal) : Ideal.div 1 (1 + Ideal.exp (-x)) = ((sg x : ℝ) : EReal) := by
  have key : ∃ r : ℝ, Ideal.div 1 (1 + Ideal.exp (-x)) = (r : EReal) := by
    induction x with
    | bot => exact ⟨0, by rw [EReal.neg_bot, Ideal.exp_top, show (1 : EReal) + ⊤ = ⊤ from rfl]; simp [Ideal.div]⟩
    | top => exact ⟨1, by rw [EReal.neg_top, Ideal.exp_bot, add_zero]; simp [Ideal.div]⟩
    | coe a =>
      have hp : (1 + Real.exp (-a) : ℝ) ≠ 0 := by positivity
      refine ⟨1 * (1 / (1 + Real.exp (-a))), ?_⟩
      rw [← EReal.coe_neg, Ideal.exp_coe, ← EReal.coe_one, ← EReal.coe_add, Ideal.div_coe hp, ← EReal.coe_mul]
  obtain ⟨r, hr⟩ := key
  rw [sg, hr, EReal.toReal_coe]

/-- The rate constants as real numbers. -/
def c10 : ℝ := 13421773 / 2 ^ 27
def c90 : ℝ := 15099494 / 2 ^ 24
theorem c10_eq : Ideal.ofBits .f32 0x3DCCCCCD#32 = ((c10 : ℝ) : EReal) := by
  rw [c10]; simp [Ideal.ofBits, Ideal.ieee, -EReal.coe_mul]; norm_num
theorem c90_eq : Ideal.ofBits .f32 0x3F666666#32 = ((c90 : ℝ) : EReal) := by
  rw [c90]; simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

/-- The learning rate and the momentum of a head from its raw parameter. -/
def lrOf (x : EReal) : ℝ := sg x * c10 * 2
def momOf (x : EReal) : ℝ := sg x * c90 * 2

theorem lr_term (x : EReal) : Ideal.div 1 (1 + Ideal.exp (-x)) * Ideal.ofBits .f32 0x3DCCCCCD#32 * Ideal.ofBits .f32 0x40000000#32
    = ((lrOf x : ℝ) : EReal) := by
  rw [sg_eq, c10_eq, two_eq, ← EReal.coe_mul, ← EReal.coe_mul, lrOf]
theorem mom_term (x : EReal) : Ideal.div 1 (1 + Ideal.exp (-x)) * Ideal.ofBits .f32 0x3F666666#32 * Ideal.ofBits .f32 0x40000000#32
    = ((momOf x : ℝ) : EReal) := by
  rw [sg_eq, c90_eq, two_eq, ← EReal.coe_mul, ← EReal.coe_mul, momOf]

/-- The rates and the momentum's powers, as the host's arrays hold them. -/
structure Rates (lr mom : Fin 8 → ℝ) (V : Valuation τ sig (Elt Ideal)) : Prop where
  a : ∀ h : Fin 8, (V (Proc.devRef .tc main_v44) : FVec Ideal S8 .f32) (ix1 h) = ((lr h : ℝ) : EReal)
  lm : ∀ h : Fin 8, (V (Proc.devRef .tc main_v55) : FVec Ideal S8 .f32) (ix1 h) = ((lr h * mom h : ℝ) : EReal)
  pw : ∀ (h : Fin 8) (k : Fin 65), (V (Proc.devRef .tc main_v61) : FVec Ideal S8x65 .f32) (ix2 h k) = ((mom h ^ k.val : ℝ) : EReal)

/-- A head's rate and momentum out of the parameter arrays. -/
def lrV (V : Valuation τ sig (Elt Ideal)) (h : Fin 8) : ℝ := lrOf ((V (Proc.devRef .tc main_arg13) : FVec Ideal S8 .f32) (ix1 h))
def momV (V : Valuation τ sig (Elt Ideal)) (h : Fin 8) : ℝ := momOf ((V (Proc.devRef .tc main_arg14) : FVec Ideal S8 .f32) (ix1 h))

/-- A masked real number. -/
theorem select_real {c : BitVec 1} {p : Prop} [Decidable p] {x : EReal} {u : ℝ} (hc : c = if p then 1#1 else 0#1) (hx : p → x = (u : EReal)) :
    Scalar.select c x (0 : EReal) = ((if p then u else 0 : ℝ) : EReal) := by
  subst hc
  by_cases hp : p
  · rw [if_pos hp, if_pos hp, ← hx hp]; rfl
  · rw [if_neg hp, if_neg hp]; rfl

theorem word_back : ∀ i : Fin 64, Scalar.select (IntOp.cmpi .slt (IntOp.subi 63#32 (BitVec.ofNat 32 i.val)) 0#32)
    (IntOp.addi (IntOp.subi 63#32 (BitVec.ofNat 32 i.val)) 65#32) (IntOp.subi 63#32 (BitVec.ofNat 32 i.val)) = BitVec.ofNat 32 (63 - i.val) := by
  decide +kernel

section
variable (V : Valuation τ sig (Elt Ideal)) {lr mom : Fin 8 → ℝ}

theorem rates_read : Rates (lrV V) (momV V) (after hostOps0_2 V) where
  a h := by
    after_reads_simp
    pointwise
    exact lr_term _
  lm h := by
    after_reads_simp
    pointwise
    rw [lr_term, mom_term, ← EReal.coe_mul]; rfl
  pw h k := by
    after_reads_simp
    pointwise
    rw [mom_term]
    have hk : (BitVec.ofNat 32 k.val).toInt = (k.val : ℤ) := by
      have := k.isLt
      rw [BitVec.toInt_eq_toNat_of_lt] <;> rw [BitVec.toNat_ofNat, Nat.mod_eq_of_lt (by omega)]
      omega
    show Ideal.pow _ ((((BitVec.ofNat 32 k.val).toInt : ℤ) : ℝ) : EReal) = _
    rw [hk]
    show ((Real.rpow _ (((k.val : ℤ) : ℝ)) : ℝ) : EReal) = _
    exact congrArg _ (by rw [Int.cast_natCast]; exact Real.rpow_natCast _ _)

/-- The table of the powers' running sums. -/
theorem geo_read (R : Rates lr mom (after hostOps0_2 V)) (h : Fin 8) (k : Fin 65) :
    (after hostOps0_4 (after hostOps0_3 (after hostOps0_2 V)) (Proc.devRef .tc main_v65) : FVec Ideal S8x65 .f32) (ix2 h k)
      = ((geo (mom h) k.val : ℝ) : EReal) := by
  have h61 : (after hostOps0_2 V (Proc.devRef .tc main_v63) : FVec Ideal S8x64 .f32)
      = extractStridedSlice S8x64 ![0, 0] (after hostOps0_2 V (Proc.devRef .tc main_v61) : FVec Ideal S8x65 .f32) slices_S8x65_S8x64_0_0 := by
    after_reads_simp
  have h62 : (after hostOps0_2 V (Proc.devRef .tc main_v62) : FVec Ideal S8x1 .f32) = fun _ => (0 : EReal) := by
    after_reads_simp
    funext j; exact Ideal.ofBits_zero_f32
  have h63 : ∀ (h : Fin 8) (i : Fin 64), (after hostOps0_2 V (Proc.devRef .tc main_v63) : FVec Ideal S8x64 .f32) (ix2 h i) = ((mom h ^ i.val : ℝ) : EReal) := by
    intro h i
    rw [h61]
    pointwise
    refine (congrArg (after hostOps0_2 V (Proc.devRef .tc main_v61) : FVec Ideal S8x65 .f32) ?_).trans (R.pw h ⟨i.val, by omega⟩)
    funext a
    match a with
    | ⟨0, _⟩ => rfl
    | ⟨1, _⟩ => rfl
  generalize after hostOps0_2 V = V' at *
  have hc := cumsum_real (V' (Proc.devRef .tc main_v63)) (broadcastInDim S_ ![] bcast_S_S_ (constant S_ .f32 0x00000000#32)) (funext fun _ => Ideal.ofBits_zero_f32)
    (fun h i => mom h ^ i) h63
  after_reads_simp
  pointwise
  split
  · next hk =>
    have h0 : k.val = 0 := by omega
    exact (congrFun h62 _).trans (by rw [h0]; simp [geo])
  · next hk =>
    refine (hc h ⟨k.val - 1, by omega⟩).trans ?_
    show ((∑ j ∈ range (k.val - 1 + 1), mom h ^ j : ℝ) : EReal) = ((geo (mom h) k.val : ℝ) : EReal)
    rw [show k.val - 1 + 1 = k.val by omega, geo]

/-- The words the host looks columns up by. -/
theorem word_between : ∀ i r : Fin 64, r < i →
    (Scalar.select (IntOp.cmpi .slt (IntOp.minsi 64#32 (IntOp.maxsi 0#32 (IntOp.subi (IntOp.subi (BitVec.ofNat 32 i.val) (BitVec.ofNat 32 r.val)) 1#32))) 0#32)
      (IntOp.addi (IntOp.minsi 64#32 (IntOp.maxsi 0#32 (IntOp.subi (IntOp.subi (BitVec.ofNat 32 i.val) (BitVec.ofNat 32 r.val)) 1#32))) 65#32)
      (IntOp.minsi 64#32 (IntOp.maxsi 0#32 (IntOp.subi (IntOp.subi (BitVec.ofNat 32 i.val) (BitVec.ofNat 32 r.val)) 1#32)))) = BitVec.ofNat 32 (i.val - 1 - r.val) := by
  decide +kernel
theorem word_above : ∀ i r : Fin 64, IntOp.cmpi .sgt (BitVec.ofNat 32 i.val) (BitVec.ofNat 32 r.val) = if r < i then 1#1 else 0#1 := by
  decide +kernel

/-- The column a pair of rows looks up: the number of rows strictly between the two. -/
theorem between_read (i r : Fin 64) (hir : r < i) :
    (after hostOps0_6 (after hostOps0_5 (after hostOps0_4 V)) (Proc.devRef .tc main_v84) : IVec S64x64x1 32) (ix3 i r 0)
      = BitVec.ofNat 32 (i.val - 1 - r.val) := by
  after_reads_simp
  simp -implicitDefEqProofs only [StableHlo.TRef.toBuf, StableHlo.TRef.ofBuf, cast_cast, cast_eq, id_eq]
  pointwise
  exact word_between i r hir
/-- The mask of the pairs of rows with the second above the first. -/
theorem mask_read (i r : Fin 64) :
    (after hostOps0_4 V (Proc.devRef .tc main_v72) : IVec S64x64 1) (ix2 i r) = if r < i then 1#1 else 0#1 := by
  after_reads_simp
  pointwise
  exact word_above i r
theorem look_read : (after hostOps0_6 V (Proc.devRef .tc main_v85) : FVec Ideal S8x64x64 .f32)
    = Host.gather gather_S8x65_S64x64x1_S8x64x64_0_1_n_n_1_2_81 (V (Proc.devRef .tc main_v65) : FVec Ideal S8x65 .f32)
        (after hostOps0_6 V (Proc.devRef .tc main_v84) : IVec S64x64x1 32) := by
  after_reads_simp

/-- The weight tables out of the rates and the looked-up running sums, on real data. -/
theorem p_read (h : Fin 8) (i r : Fin 64) (a b g : ℝ)
    (ha : (V (Proc.devRef .tc main_v44) : FVec Ideal S8 .f32) (ix1 h) = (a : EReal))
    (hb : (V (Proc.devRef .tc main_v55) : FVec Ideal S8 .f32) (ix1 h) = (b : EReal))
    (hm : (V (Proc.devRef .tc main_v72) : IVec S64x64 1) (ix2 i r) = if r < i then 1#1 else 0#1)
    (hg : r < i → (after hostOps0_6 V (Proc.devRef .tc main_v85) : FVec Ideal S8x64x64 .f32) (ix3 h i r) = (g : EReal)) :
    (after hostOps0_7 (after hostOps0_6 V) (Proc.devRef .tc main_v95) : FVec Ideal S8x64x64 .f32) (ix3 h i r)
      = ((if r < i then b * g + 1 + a else 0 : ℝ) : EReal) := by
  rw [look_read] at hg
  generalize hW : (after hostOps0_6 V (Proc.devRef .tc main_v84) : IVec S64x64x1 32) = W at hg
  revert hW
  after_reads_simp
  simp -implicitDefEqProofs only [StableHlo.TRef.toBuf, StableHlo.TRef.ofBuf, cast_cast, cast_eq, id_eq]
  intro hW
  rw [hW]
  pointwise
  exact select_real hm fun hr => by rw [ha, hb, hg hr, ← EReal.coe_mul, ← EReal.coe_one, ← EReal.coe_add, ← EReal.coe_add]
theorem q_read (h : Fin 8) (i r : Fin 64) (a b g : ℝ)
    (ha : (V (Proc.devRef .tc main_v44) : FVec Ideal S8 .f32) (ix1 h) = (a : EReal))
    (hb : (V (Proc.devRef .tc main_v55) : FVec Ideal S8 .f32) (ix1 h) = (b : EReal))
    (hm : (V (Proc.devRef .tc main_v72) : IVec S64x64 1) (ix2 i r) = if r < i then 1#1 else 0#1)
    (hg : r < i → (V (Proc.devRef .tc main_v85) : FVec Ideal S8x64x64 .f32) (ix3 h i r) = (g : EReal)) :
    (after hostOps0_9 (after hostOps0_8 V) (Proc.devRef .tc main_v103) : FVec Ideal S8x64x64 .f32) (ix3 h i r)
      = ((if r < i then b * g + a else 0 : ℝ) : EReal) := by
  after_reads_simp
  simp -implicitDefEqProofs only [StableHlo.TRef.toBuf, StableHlo.TRef.ofBuf, cast_cast, cast_eq, id_eq]
  pointwise
  exact select_real hm fun hr => by rw [ha, hb, hg hr, ← EReal.coe_mul, ← EReal.coe_add]

/-- The column a row looks up from the end of its block. -/
theorem back_read (i : Fin 64) :
    (after hostOps0_10 V (Proc.devRef .tc main_v116) : IVec S64x1 32) (ix2 i 0) = BitVec.ofNat 32 (63 - i.val) := by
  after_reads_simp
  pointwise
  exact word_back i
theorem back_read' (i : Fin 64) :
    (after hostOps0_10 V (Proc.devRef .tc main_v140) : IVec S64x1 32) (ix2 i 0) = BitVec.ofNat 32 (63 - i.val) := by
  after_reads_simp
  pointwise
  exact word_back i
theorem last_geo : (after hostOps0_10 V (Proc.devRef .tc main_v117) : FVec Ideal S8x64 .f32)
    = Host.gather gather_S8x65_S64x1_S8x64_0_1_n_n_1_1_81 (V (Proc.devRef .tc main_v65) : FVec Ideal S8x65 .f32)
        (after hostOps0_10 V (Proc.devRef .tc main_v116) : IVec S64x1 32) := by
  after_reads_simp
theorem last_pow : (after hostOps0_10 V (Proc.devRef .tc main_v141) : FVec Ideal S8x64 .f32)
    = Host.gather gather_S8x65_S64x1_S8x64_0_1_n_n_1_1_81 (V (Proc.devRef .tc main_v61) : FVec Ideal S8x65 .f32)
        (after hostOps0_10 V (Proc.devRef .tc main_v140) : IVec S64x1 32) := by
  after_reads_simp

section
variable (R : Rates lr mom V)
variable (G : ∀ (h : Fin 8) (k : Fin 65), (V (Proc.devRef .tc main_v65) : FVec Ideal S8x65 .f32) (ix2 h k) = ((geo (mom h) k.val : ℝ) : EReal))
variable (h : Fin 8) (i : Fin 64)

include G in
theorem geo_back : (after hostOps0_10 V (Proc.devRef .tc main_v117) : FVec Ideal S8x64 .f32) (ix2 h i)
    = ((geo (mom h) (63 - i.val) : ℝ) : EReal) := by
  rw [last_geo]
  exact (gather_row1 _ _ h i ⟨63 - i.val, by omega⟩ (back_read V i)).trans (G h _)
include R in
theorem pow_back : (after hostOps0_10 V (Proc.devRef .tc main_v141) : FVec Ideal S8x64 .f32) (ix2 h i)
    = ((mom h ^ (63 - i.val) : ℝ) : EReal) := by
  rw [last_pow]
  exact (gather_row1 _ _ h i ⟨63 - i.val, by omega⟩ (back_read' V i)).trans (R.pw h _)

/- The packed table's columns, one by one. -/
include R G in
theorem col0_read : (after hostOps0_10 V (Proc.devRef .tc main_v161) : FVec Ideal S8x64x128 .f32) (ix3 h i 0)
    = ((g2v (lr h) (mom h) i : ℝ) : EReal) := by
  after_reads_simp
  pointwise
  after_reads_simp
  pointwise
  rw [R.lm, G, ← EReal.coe_mul]; rfl
include R G in
theorem col1_read : (after hostOps0_10 V (Proc.devRef .tc main_v161) : FVec Ideal S8x64x128 .f32) (ix3 h i 1)
    = ((cPv (lr h) (mom h) i : ℝ) : EReal) := by
  have hg := geo_back V G h i
  rw [last_geo] at hg
  revert hg
  after_reads_simp
  intro hg
  pointwise
  after_reads_simp
  pointwise
  rw [R.lm, R.a, hg, ← EReal.coe_mul, ← EReal.coe_one, ← EReal.coe_add, ← EReal.coe_add]; rfl
include R G in
theorem col2_read : (after hostOps0_10 V (Proc.devRef .tc main_v161) : FVec Ideal S8x64x128 .f32) (ix3 h i 2)
    = ((cQv (lr h) (mom h) i : ℝ) : EReal) := by
  have hg := geo_back V G h i
  rw [last_geo] at hg
  revert hg
  after_reads_simp
  intro hg
  pointwise
  after_reads_simp
  pointwise
  rw [R.lm, R.a, hg, ← EReal.coe_mul, ← EReal.coe_add]; rfl
include R in
theorem col3_read : (after hostOps0_10 V (Proc.devRef .tc main_v161) : FVec Ideal S8x64x128 .f32) (ix3 h i 3)
    = ((dmv (mom h) i : ℝ) : EReal) := by
  have hg := pow_back V R h i
  rw [last_pow] at hg
  revert hg
  after_reads_simp
  intro hg
  pointwise
  after_reads_simp
  pointwise
  exact hg
include R G in
theorem col4_read : (after hostOps0_10 V (Proc.devRef .tc main_v161) : FVec Ideal S8x64x128 .f32) (ix3 h i 4)
    = ((lr h * mom h * geo (mom h) 64 : ℝ) : EReal) := by
  after_reads_simp
  pointwise
  after_reads_simp
  pointwise
  rw [R.lm, G, ← EReal.coe_mul]; rfl
include R in
theorem col5_read : (after hostOps0_10 V (Proc.devRef .tc main_v161) : FVec Ideal S8x64x128 .f32) (ix3 h i 5)
    = ((mom h ^ 64 : ℝ) : EReal) := by
  after_reads_simp
  pointwise
  after_reads_simp
  pointwise
  exact R.pw h 64
end
end

end Delta

end
-- ==== Proof.Delta.Region1.lean ====
/- The scan's pipeline on real data: point `32 b + c` leaves batch row `b`'s states after `64 (c + 1)` steps and the outputs
   of the 64 steps before, so the three result arrays end holding the outputs of all 2048 steps and the last states. -/
module

public import proofs.«01_k».proof.Proof.Delta.Point

@[expose] public section

set_option maxRecDepth 16384

noncomputable section

namespace Delta

open Idealize.ShloMosaic Idealize.ShloMosaic.TcCoe Cert.KernelIdeal Cert.KernelIdeal.Gen Matrix
open Idealize.SL Idealize.SL.Sem

/-- A sequence array: by batch row, step, head and lane. -/
def seqA (x : ℕ → ℕ → Fin 8 → Vc) : FVec Ideal S4x2048x512 .f32 :=
  fun j => ((x (j 0).val (j 1).val (hd (j 2)) (ln (j 2)) : ℝ) : EReal)
/-- An array of states, transposed: by batch row and head. -/
def stA (x : ℕ → Fin 8 → Mt) : FVec Ideal S4x8x64x64 .f32 :=
  fun j => ((x (j 0).val (j 1) (j 3) (j 2) : ℝ) : EReal)

/-- Where each window's block sits. -/
theorem pos1_0 : ∀ t : Fin cfg1.N, win1_0.index t = ![t.val / 32, t.val % 32, 0] := by decide +kernel
theorem pos1_1 : ∀ t : Fin cfg1.N, win1_1.index t = ![t.val / 32, t.val % 32, 0] := by decide +kernel
theorem pos1_2 : ∀ t : Fin cfg1.N, win1_2.index t = ![t.val / 32, t.val % 32, 0] := by decide +kernel
theorem pos1_3 : ∀ t : Fin cfg1.N, win1_3.index t = ![0, 0, 0] := by decide +kernel
theorem pos1_4 : ∀ t : Fin cfg1.N, win1_4.index t = ![0, 0, 0] := by decide +kernel
theorem pos1_5 : ∀ t : Fin cfg1.N, win1_5.index t = ![0, 0, 0] := by decide +kernel
theorem pos1_6 : ∀ t : Fin cfg1.N, win1_6.index t = ![t.val / 32, 0, 0, 0] := by decide +kernel
theorem pos1_7 : ∀ t : Fin cfg1.N, win1_7.index t = ![t.val / 32, 0, 0, 0] := by decide +kernel
theorem pos1_8 : ∀ t : Fin cfg1.N, win1_8.index t = ![t.val / 32, t.val % 32, 0] := by decide +kernel
theorem pos1_9 : ∀ t : Fin cfg1.N, win1_9.index t = ![t.val / 32, 0, 0, 0] := by decide +kernel
theorem pos1_10 : ∀ t : Fin cfg1.N, win1_10.index t = ![t.val / 32, 0, 0, 0] := by decide +kernel

section
variable (V : (c : Dev nD) → (b : Ref sig .tc) → Buf (Elt Ideal) ((c : Thread nD τ).loc b)) (c : Dev nD)

/-- The scan's data: keys, values and queries by batch row, step and head; step sizes and momenta by head; the states it
    starts from. -/
structure ScanData where
  k : ℕ → ℕ → Fin 8 → Vc
  v : ℕ → ℕ → Fin 8 → Vc
  q : ℕ → ℕ → Fin 8 → Vc
  lr : Fin 8 → ℝ
  mom : Fin 8 → ℝ
  s : ℕ → Fin 8 → St

namespace ScanData
variable (D : ScanData)
/-- Batch row `b`'s head `h`'s states after `n` steps. -/
def st (b : ℕ) (h : Fin 8) (n : ℕ) : St := run (D.lr h) (D.mom h) (fun s => D.k b s h) (fun s => D.v b s h) (D.s b h) n
/-- Its output at step `n`. -/
def o (b n : ℕ) (h : Fin 8) : Vc := predOf (D.st b h n).1 (D.q b n h)
/-- The data of the 64 steps from step `n` of batch row `b`. -/
def pt (b n : ℕ) : PointData where
  k := fun i => D.k b (n + i)
  v := fun i => D.v b (n + i)
  q := fun i => D.q b (n + i)
  lr := D.lr
  mom := D.mom
  s := fun h => D.st b h n
theorem st_add (b n i : ℕ) (h : Fin 8) :
    run ((D.pt b n).lr h) ((D.pt b n).mom h) ((D.pt b n).k · h) ((D.pt b n).v · h) ((D.pt b n).s h) i = D.st b h (n + i) :=
  (run_add (D.lr h) (D.mom h) (fun s => D.k b s h) (fun s => D.v b s h) (D.s b h) n i).symm
end ScanData

variable (D : ScanData)

/-- The arrays the scan starts from hold its data. -/
structure Holds : Prop where
  k : V c main_v163 = seqA D.k
  v : V c main_v164 = seqA D.v
  q : V c main_v165 = seqA D.q
  tab : Tables D.lr D.mom (V c main_v95) (V c main_v103) (V c main_v161)
  s1 : V c main_v166 = stA fun b h => (D.s b h).1
  s2 : V c main_v167 = stA fun b h => (D.s b h).2

theorem cst_stB (x : Fin 8 → Mt) (y : S1x8x64x64.Idx) : cst (x (y 1))ᵀ (ix4 0 0 (y 2) (y 3)) = stB x y := rfl

variable {V c D} (H : Holds V c D)

theorem seq_block (x : ℕ → ℕ → Fin 8 → Vc) (t : Fin cfg1.N) (i : S4x2048x512.Idx) (j : S1x64x512.Idx)
    (h0 : (i 0).val = t.val / 32 * 1 + 1 * (j 0).val) (h1 : (i 1).val = t.val % 32 * 64 + 1 * (j 1).val)
    (h2 : (i 2).val = 0 * 512 + 1 * (j 2).val) :
    seqA x i = seqB (fun i => x (t.val / 32) (64 * (t.val % 32) + i)) j := by
  have hj : (j 0).val < 1 := (j 0).isLt
  have e2 : (i 2 : Fin 512) = j 2 := Fin.ext (by omega)
  unfold seqA seqB
  rw [show (i 0).val = t.val / 32 by omega, show (i 1).val = 64 * (t.val % 32) + (j 1).val by omega, e2]

theorem st_block (x : ℕ → Fin 8 → Mt) (t : Fin cfg1.N) (i : S4x8x64x64.Idx) (j : S1x8x64x64.Idx)
    (h0 : (i 0).val = t.val / 32 * 1 + 1 * (j 0).val) (h1 : (i 1).val = 0 * 8 + 1 * (j 1).val)
    (h2 : (i 2).val = 0 * 64 + 1 * (j 2).val) (h3 : (i 3).val = 0 * 64 + 1 * (j 3).val) :
    stA x i = stB (x (t.val / 32)) j := by
  have hj : (j 0).val < 1 := (j 0).isLt
  have e1 : (i 1 : Fin 8) = j 1 := Fin.ext (by omega)
  have e2 : (i 2 : Fin 64) = j 2 := Fin.ext (by omega)
  have e3 : (i 3 : Fin 64) = j 3 := Fin.ext (by omega)
  unfold stA stB
  rw [show (i 0).val = t.val / 32 by omega, e1, e2, e3]

include H

theorem in1_0 (t : Fin cfg1.N) : (iblk1 V c 0 t : FVec Ideal S1x64x512 .f32)
    = seqB (fun i => D.k (t.val / 32) (64 * (t.val % 32) + i)) := by
  funext j
  unfold iblk1
  rw [View.read_apply]
  show V c main_v163 _ = _
  rw [H.k]
  exact seq_block _ _ _ _ (congrArg (· * 1 + 1 * (j 0).val) (congrFun (pos1_0 t) 0))
    (congrArg (· * 64 + 1 * (j 1).val) (congrFun (pos1_0 t) 1)) (congrArg (· * 512 + 1 * (j 2).val) (congrFun (pos1_0 t) 2))
theorem in1_1 (t : Fin cfg1.N) : (iblk1 V c 1 t : FVec Ideal S1x64x512 .f32)
    = seqB (fun i => D.v (t.val / 32) (64 * (t.val % 32) + i)) := by
  funext j
  unfold iblk1
  rw [View.read_apply]
  show V c main_v164 _ = _
  rw [H.v]
  exact seq_block _ _ _ _ (congrArg (· * 1 + 1 * (j 0).val) (congrFun (pos1_1 t) 0))
    (congrArg (· * 64 + 1 * (j 1).val) (congrFun (pos1_1 t) 1)) (congrArg (· * 512 + 1 * (j 2).val) (congrFun (pos1_1 t) 2))
theorem in1_2 (t : Fin cfg1.N) : (iblk1 V c 2 t : FVec Ideal S1x64x512 .f32)
    = seqB (fun i => D.q (t.val / 32) (64 * (t.val % 32) + i)) := by
  funext j
  unfold iblk1
  rw [View.read_apply]
  show V c main_v165 _ = _
  rw [H.q]
  exact seq_block _ _ _ _ (congrArg (· * 1 + 1 * (j 0).val) (congrFun (pos1_2 t) 0))
    (congrArg (· * 64 + 1 * (j 1).val) (congrFun (pos1_2 t) 1)) (congrArg (· * 512 + 1 * (j 2).val) (congrFun (pos1_2 t) 2))
theorem in1_6 (t : Fin cfg1.N) : (iblk1 V c 6 t : FVec Ideal S1x8x64x64 .f32)
    = stB (fun h => (D.s (t.val / 32) h).1) := by
  funext j
  unfold iblk1
  rw [View.read_apply]
  show V c main_v166 _ = _
  rw [H.s1]
  exact st_block (fun b h => (D.s b h).1) _ _ _ (congrArg (· * 1 + 1 * (j 0).val) (congrFun (pos1_6 t) 0))
    (congrArg (· * 8 + 1 * (j 1).val) (congrFun (pos1_6 t) 1)) (congrArg (· * 64 + 1 * (j 2).val) (congrFun (pos1_6 t) 2))
    (congrArg (· * 64 + 1 * (j 3).val) (congrFun (pos1_6 t) 3))
theorem in1_7 (t : Fin cfg1.N) : (iblk1 V c 7 t : FVec Ideal S1x8x64x64 .f32)
    = stB (fun h => (D.s (t.val / 32) h).2) := by
  funext j
  unfold iblk1
  rw [View.read_apply]
  show V c main_v167 _ = _
  rw [H.s2]
  exact st_block (fun b h => (D.s b h).2) _ _ _ (congrArg (· * 1 + 1 * (j 0).val) (congrFun (pos1_7 t) 0))
    (congrArg (· * 8 + 1 * (j 1).val) (congrFun (pos1_7 t) 1)) (congrArg (· * 64 + 1 * (j 2).val) (congrFun (pos1_7 t) 2))
    (congrArg (· * 64 + 1 * (j 3).val) (congrFun (pos1_7 t) 3))
omit H in
/-- A table's one block is the table. -/
theorem in1_3 (t : Fin cfg1.N) : (iblk1 V c 3 t : FVec Ideal S8x64x64 .f32) = V c main_v95 := by
  funext j
  unfold iblk1
  rw [View.read_apply]
  show V c main_v95 _ = V c main_v95 _
  congr 1
  funext a; apply Fin.ext
  match a with
  | ⟨0, _⟩ => show win1_3.index t 0 * 8 + 1 * (j 0).val = (j 0).val; rw [congrFun (pos1_3 t) 0]; show 0 * 8 + 1 * (j 0).val = (j 0).val; omega
  | ⟨1, _⟩ => show win1_3.index t 1 * 64 + 1 * (j 1).val = (j 1).val; rw [congrFun (pos1_3 t) 1]; show 0 * 64 + 1 * (j 1).val = (j 1).val; omega
  | ⟨2, _⟩ => show win1_3.index t 2 * 64 + 1 * (j 2).val = (j 2).val; rw [congrFun (pos1_3 t) 2]; show 0 * 64 + 1 * (j 2).val = (j 2).val; omega
omit H in
theorem in1_4 (t : Fin cfg1.N) : (iblk1 V c 4 t : FVec Ideal S8x64x64 .f32) = V c main_v103 := by
  funext j
  unfold iblk1
  rw [View.read_apply]
  show V c main_v103 _ = V c main_v103 _
  congr 1
  funext a; apply Fin.ext
  match a with
  | ⟨0, _⟩ => show win1_4.index t 0 * 8 + 1 * (j 0).val = (j 0).val; rw [congrFun (pos1_4 t) 0]; show 0 * 8 + 1 * (j 0).val = (j 0).val; omega
  | ⟨1, _⟩ => show win1_4.index t 1 * 64 + 1 * (j 1).val = (j 1).val; rw [congrFun (pos1_4 t) 1]; show 0 * 64 + 1 * (j 1).val = (j 1).val; omega
  | ⟨2, _⟩ => show win1_4.index t 2 * 64 + 1 * (j 2).val = (j 2).val; rw [congrFun (pos1_4 t) 2]; show 0 * 64 + 1 * (j 2).val = (j 2).val; omega
omit H in
theorem in1_5 (t : Fin cfg1.N) : (iblk1 V c 5 t : FVec Ideal S8x64x128 .f32) = V c main_v161 := by
  funext j
  unfold iblk1
  rw [View.read_apply]
  show V c main_v161 _ = V c main_v161 _
  congr 1
  funext a; apply Fin.ext
  match a with
  | ⟨0, _⟩ => show win1_5.index t 0 * 8 + 1 * (j 0).val = (j 0).val; rw [congrFun (pos1_5 t) 0]; show 0 * 8 + 1 * (j 0).val = (j 0).val; omega
  | ⟨1, _⟩ => show win1_5.index t 1 * 64 + 1 * (j 1).val = (j 1).val; rw [congrFun (pos1_5 t) 1]; show 0 * 64 + 1 * (j 1).val = (j 1).val; omega
  | ⟨2, _⟩ => show win1_5.index t 2 * 128 + 1 * (j 2).val = (j 2).val; rw [congrFun (pos1_5 t) 2]; show 0 * 128 + 1 * (j 2).val = (j 2).val; omega

/-- What a point leaves, from the states it loads: the outputs of its 64 steps and the states after them. -/
theorem point_out (t : Fin cfg1.N) (n : ℕ) (hn : n = 64 * (t.val % 32)) (m b : Vec Ideal S1x8x64x64 .f32)
    (hm : m = stB fun h => (D.st (t.val / 32) h n).1) (hb : b = stB fun h => (D.st (t.val / 32) h n).2) :
    (loads (iblk1 V c 0 t) (iblk1 V c 1 t) (iblk1 V c 2 t) (iblk1 V c 3 t) (iblk1 V c 4 t) (iblk1 V c 5 t) m b).outs
        = seqB (fun i => D.o (t.val / 32) (n + i))
      ∧ (fun y : S1x8x64x64.Idx => (loads (iblk1 V c 0 t) (iblk1 V c 1 t) (iblk1 V c 2 t) (iblk1 V c 3 t) (iblk1 V c 4 t) (iblk1 V c 5 t) m b).mem
          (y 1) (ix4 0 0 (y 2) (y 3))) = (stB fun h => (D.st (t.val / 32) h (n + 64)).1)
      ∧ (fun y : S1x8x64x64.Idx => (loads (iblk1 V c 0 t) (iblk1 V c 1 t) (iblk1 V c 2 t) (iblk1 V c 3 t) (iblk1 V c 4 t) (iblk1 V c 5 t) m b).buf
          (y 1) (ix4 0 0 (y 2) (y 3))) = (stB fun h => (D.st (t.val / 32) h (n + 64)).2) := by
  have e : loads (iblk1 V c 0 t) (iblk1 V c 1 t) (iblk1 V c 2 t) (iblk1 V c 3 t) (iblk1 V c 4 t) (iblk1 V c 5 t) m b
      = ldD (D.pt (t.val / 32) n) (V c main_v95) (V c main_v103) (V c main_v161) := by
    rw [in1_0 H, in1_1 H, in1_2 H, in1_3, in1_4, in1_5, hm, hb, hn]; rfl
  rw [e]
  have T : Tables (D.pt (t.val / 32) n).lr (D.pt (t.val / 32) n).mom (V c main_v95) (V c main_v103) (V c main_v161) := H.tab
  refine ⟨funext fun y => ?_, funext fun y => ?_, funext fun y => ?_⟩
  · refine (outs_apply _ y).trans ((congrFun (out_point _ T (hd (y 2))) _).trans ?_)
    exact congrArg (fun s : St => ((predOf s.1 (D.q (t.val / 32) (n + (y 1).val) (hd (y 2))) (ln (y 2)) : ℝ) : EReal))
      (D.st_add (t.val / 32) n (y 1).val (hd (y 2)))
  · refine (congrFun (mem_point _ T (y 1)) _).trans ?_
    exact (congrArg (fun s : St => cst s.1ᵀ (ix4 0 0 (y 2) (y 3))) (D.st_add (t.val / 32) n 64 (y 1))).trans
      (cst_stB (fun h => (D.st (t.val / 32) h (n + 64)).1) y)
  · refine (congrFun (buf_point _ T (y 1)) _).trans ?_
    exact (congrArg (fun s : St => cst s.2ᵀ (ix4 0 0 (y 2) (y 3))) (D.st_add (t.val / 32) n 64 (y 1))).trans
      (cst_stB (fun h => (D.st (t.val / 32) h (n + 64)).2) y)

/-- What point `n` leaves, in closed form. -/
def left (D : ScanData) (n : ℕ) : FVec Ideal S1x64x512 .f32 × FVec Ideal S1x8x64x64 .f32 × FVec Ideal S1x8x64x64 .f32 :=
  (seqB (fun i => D.o (n / 32) (64 * (n % 32) + i)), (stB fun h => (D.st (n / 32) h (64 * (n % 32) + 64)).1),
    (stB fun h => (D.st (n / 32) h (64 * (n % 32) + 64)).2))

theorem left_A (t : Fin cfg1.N) (h0 : t.val % 32 = 0) : outsAt1 V c t.val t.isLt = left D t.val := by
  have e : 0 = 64 * (t.val % 32) := by omega
  have := point_out H t 0 e _ _ (in1_6 H t) (in1_7 H t)
  rw [outsAt1_A V c t h0, left, ← e]
  refine Prod.ext ?_ (Prod.ext (funext fun y => ?_) (funext fun y => ?_)) <;> dsimp only
  · rw [outA_8]; exact this.1
  · rw [outA_9]; exact congrFun this.2.1 y
  · rw [outA_10]; exact congrFun this.2.2 y

theorem left_B (t : Fin cfg1.N) (h0 : ¬t.val % 32 = 0)
    (ih : outsAt1 V c (t.val - 1) (Nat.lt_of_le_of_lt (Nat.sub_le _ _) t.isLt) = left D (t.val - 1)) :
    outsAt1 V c t.val t.isLt = left D t.val := by
  have e1 : (t.val - 1) / 32 = t.val / 32 := by omega
  have e2 : 64 * ((t.val - 1) % 32) + 64 = 64 * (t.val % 32) := by omega
  rw [left, e1, e2] at ih
  have := point_out H t _ rfl _ _ (congrArg (fun x => x.2.1) ih) (congrArg (fun x => x.2.2) ih)
  rw [outsAt1_B V c t h0, left]
  refine Prod.ext ?_ (Prod.ext (funext fun y => ?_) (funext fun y => ?_)) <;> dsimp only
  · rw [outB_8]; exact this.1
  · rw [outB_9]; exact congrFun this.2.1 y
  · rw [outB_10]; exact congrFun this.2.2 y

/-- What each point leaves. -/
theorem outsAt1_eq (n : ℕ) : ∀ t : Fin cfg1.N, t.val = n → outsAt1 V c t.val t.isLt = left D t.val := by
  induction n with
  | zero => intro t h; exact left_A H t (by omega)
  | succ n ih =>
    intro t h
    by_cases h0 : t.val % 32 = 0
    · exact left_A H t h0
    · exact left_B H t h0 (ih ⟨t.val - 1, Nat.lt_of_le_of_lt (Nat.sub_le _ _) t.isLt⟩ (by show t.val - 1 = n; omega))

/-- The outputs' array. -/
theorem scan_o : (dat1 V c).arrAt 8 cfg1.N = seqA D.o := by
  refine (dat1 V c).arrAt_eq_of_cover 8 (seqA D.o) (fun t _ => ?_) fun i => ?_
  · show (cfg1.win 8).cut (grid1.coords t) ((dat1 V c).after 8 t) = _
    rw [after1_8, outsAt1_eq H _ t rfl, left]
    funext j
    rw [View.read_apply]
    exact (seq_block D.o t _ j (congrArg (· * 1 + 1 * (j 0).val) (congrFun (pos1_8 t) 0))
      (congrArg (· * 64 + 1 * (j 1).val) (congrFun (pos1_8 t) 1)) (congrArg (· * 512 + 1 * (j 2).val) (congrFun (pos1_8 t) 2))).symm
  · have h0 : (i 0 : ℕ) < 4 := (i 0).isLt
    have h1 : (i 1 : ℕ) < 2048 := (i 1).isLt
    have h2 : (i 2 : ℕ) < 512 := (i 2).isLt
    let t : Fin cfg1.N := ⟨32 * (i 0).val + (i 1).val / 64, by rw [show cfg1.N = 128 from N_1]; omega⟩
    refine ⟨t, flush1_8 t, ?_⟩
    show i ∈ ((View.whole main_v168_0).slice (win1_8.rect t)).set
    rw [View.set_slice_whole, Rect.mem_set_unit]
    have p0 : win1_8.index t 0 = (32 * (i 0).val + (i 1).val / 64) / 32 := congrFun (pos1_8 t) 0
    have p1 : win1_8.index t 1 = (32 * (i 0).val + (i 1).val / 64) % 32 := congrFun (pos1_8 t) 1
    have p2 : win1_8.index t 2 = 0 := congrFun (pos1_8 t) 2
    intro a
    match a with
    | ⟨0, _⟩ => show win1_8.index t 0 * 1 ≤ (i 0 : ℕ) ∧ (i 0 : ℕ) < win1_8.index t 0 * 1 + 1; omega
    | ⟨1, _⟩ => show win1_8.index t 1 * 64 ≤ (i 1 : ℕ) ∧ (i 1 : ℕ) < win1_8.index t 1 * 64 + 64; omega
    | ⟨2, _⟩ => show win1_8.index t 2 * 512 ≤ (i 2 : ℕ) ∧ (i 2 : ℕ) < win1_8.index t 2 * 512 + 512; omega

/-- The array of the last memories. -/
theorem scan_mem (N : ℕ) (hN : 64 * 31 + 64 = N) : (dat1 V c).arrAt 9 cfg1.N = stA fun b h => (D.st b h N).1 := by
  refine (dat1 V c).arrAt_eq_of_cover 9 (stA fun b h => (D.st b h N).1) (fun t hf => ?_) fun i => ?_
  · have hf' := (flush1_9 t).1 hf
    show (cfg1.win 9).cut (grid1.coords t) ((dat1 V c).after 9 t) = _
    rw [after1_9, outsAt1_eq H _ t rfl, left, hf', hN]
    funext j
    rw [View.read_apply]
    exact (st_block (fun b h => (D.st b h N).1) t _ j (congrArg (· * 1 + 1 * (j 0).val) (congrFun (pos1_9 t) 0))
      (congrArg (· * 8 + 1 * (j 1).val) (congrFun (pos1_9 t) 1)) (congrArg (· * 64 + 1 * (j 2).val) (congrFun (pos1_9 t) 2))
      (congrArg (· * 64 + 1 * (j 3).val) (congrFun (pos1_9 t) 3))).symm
  · have h0 : (i 0 : ℕ) < 4 := (i 0).isLt
    have h1 : (i 1 : ℕ) < 8 := (i 1).isLt
    have h2 : (i 2 : ℕ) < 64 := (i 2).isLt
    have h3 : (i 3 : ℕ) < 64 := (i 3).isLt
    let t : Fin cfg1.N := ⟨32 * (i 0).val + 31, by rw [show cfg1.N = 128 from N_1]; omega⟩
    refine ⟨t, (flush1_9 t).2 (by show (32 * (i 0).val + 31) % 32 = 31; omega), ?_⟩
    show i ∈ ((View.whole main_v168_1).slice (win1_9.rect t)).set
    rw [View.set_slice_whole, Rect.mem_set_unit]
    have p0 : win1_9.index t 0 = (32 * (i 0).val + 31) / 32 := congrFun (pos1_9 t) 0
    have p1 : win1_9.index t 1 = 0 := congrFun (pos1_9 t) 1
    have p2 : win1_9.index t 2 = 0 := congrFun (pos1_9 t) 2
    have p3 : win1_9.index t 3 = 0 := congrFun (pos1_9 t) 3
    intro a
    match a with
    | ⟨0, _⟩ => show win1_9.index t 0 * 1 ≤ (i 0 : ℕ) ∧ (i 0 : ℕ) < win1_9.index t 0 * 1 + 1; omega
    | ⟨1, _⟩ => show win1_9.index t 1 * 8 ≤ (i 1 : ℕ) ∧ (i 1 : ℕ) < win1_9.index t 1 * 8 + 8; omega
    | ⟨2, _⟩ => show win1_9.index t 2 * 64 ≤ (i 2 : ℕ) ∧ (i 2 : ℕ) < win1_9.index t 2 * 64 + 64; omega
    | ⟨3, _⟩ => show win1_9.index t 3 * 64 ≤ (i 3 : ℕ) ∧ (i 3 : ℕ) < win1_9.index t 3 * 64 + 64; omega

/-- The array of the last momentum buffers. -/
theorem scan_buf (N : ℕ) (hN : 64 * 31 + 64 = N) : (dat1 V c).arrAt 10 cfg1.N = stA fun b h => (D.st b h N).2 := by
  refine (dat1 V c).arrAt_eq_of_cover 10 (stA fun b h => (D.st b h N).2) (fun t hf => ?_) fun i => ?_
  · have hf' := (flush1_10 t).1 hf
    show (cfg1.win 10).cut (grid1.coords t) ((dat1 V c).after 10 t) = _
    rw [after1_10, outsAt1_eq H _ t rfl, left, hf', hN]
    funext j
    rw [View.read_apply]
    exact (st_block (fun b h => (D.st b h N).2) t _ j (congrArg (· * 1 + 1 * (j 0).val) (congrFun (pos1_10 t) 0))
      (congrArg (· * 8 + 1 * (j 1).val) (congrFun (pos1_10 t) 1)) (congrArg (· * 64 + 1 * (j 2).val) (congrFun (pos1_10 t) 2))
      (congrArg (· * 64 + 1 * (j 3).val) (congrFun (pos1_10 t) 3))).symm
  · have h0 : (i 0 : ℕ) < 4 := (i 0).isLt
    have h1 : (i 1 : ℕ) < 8 := (i 1).isLt
    have h2 : (i 2 : ℕ) < 64 := (i 2).isLt
    have h3 : (i 3 : ℕ) < 64 := (i 3).isLt
    let t : Fin cfg1.N := ⟨32 * (i 0).val + 31, by rw [show cfg1.N = 128 from N_1]; omega⟩
    refine ⟨t, (flush1_10 t).2 (by show (32 * (i 0).val + 31) % 32 = 31; omega), ?_⟩
    show i ∈ ((View.whole main_v168_2).slice (win1_10.rect t)).set
    rw [View.set_slice_whole, Rect.mem_set_unit]
    have p0 : win1_10.index t 0 = (32 * (i 0).val + 31) / 32 := congrFun (pos1_10 t) 0
    have p1 : win1_10.index t 1 = 0 := congrFun (pos1_10 t) 1
    have p2 : win1_10.index t 2 = 0 := congrFun (pos1_10 t) 2
    have p3 : win1_10.index t 3 = 0 := congrFun (pos1_10 t) 3
    intro a
    match a with
    | ⟨0, _⟩ => show win1_10.index t 0 * 1 ≤ (i 0 : ℕ) ∧ (i 0 : ℕ) < win1_10.index t 0 * 1 + 1; omega
    | ⟨1, _⟩ => show win1_10.index t 1 * 8 ≤ (i 1 : ℕ) ∧ (i 1 : ℕ) < win1_10.index t 1 * 8 + 8; omega
    | ⟨2, _⟩ => show win1_10.index t 2 * 64 ≤ (i 2 : ℕ) ∧ (i 2 : ℕ) < win1_10.index t 2 * 64 + 64; omega
    | ⟨3, _⟩ => show win1_10.index t 3 * 64 ≤ (i 3 : ℕ) ∧ (i 3 : ℕ) < win1_10.index t 3 * 64 + 64; omega

end

end Delta

end
-- ==== Proof.Delta.Region2.lean ====
/- The output's pipeline: each row of the heads' outputs times the output weight, times the logistic of the gate's sums. -/
module

public import proofs.«01_k».proof.Proof.Delta.Region0

@[expose] public section

set_option maxRecDepth 16384

noncomputable section

namespace Delta

open Idealize.ShloMosaic Idealize.ShloMosaic.TcCoe Cert.KernelIdeal Cert.KernelIdeal.Gen Finset
open Idealize.SL Idealize.SL.Sem

/-- The gated output at row `r` and column `j`. -/
def gated {n : ℕ} (o : FVec Ideal ⟨2, ![n, 512]⟩ .f32) (x : FVec Ideal ⟨2, ![n, 1024]⟩ .f32) (Wo : FVec Ideal S512x1024 .f32)
    (Wg : FVec Ideal S1024x1024 .f32) (bg : Fin 1024 → EReal) (r : Fin n) (j : Fin 1024) : EReal :=
  Ideal.logistic ((∑ i : Fin 1024, x (ix2 r i) * Wg (ix2 i j)) + bg j) * ∑ l : Fin 512, o (ix2 r l) * Wo (ix2 l j)

theorem gated_congr {n m : ℕ} {o : FVec Ideal ⟨2, ![n, 512]⟩ .f32} {x : FVec Ideal ⟨2, ![n, 1024]⟩ .f32}
    {o' : FVec Ideal ⟨2, ![m, 512]⟩ .f32} {x' : FVec Ideal ⟨2, ![m, 1024]⟩ .f32} {Wo : FVec Ideal S512x1024 .f32}
    {Wg : FVec Ideal S1024x1024 .f32} {bg bg' : Fin 1024 → EReal} {r : Fin n} {r' : Fin m} {j : Fin 1024}
    (ho : ∀ l, o (ix2 r l) = o' (ix2 r' l)) (hx : ∀ i, x (ix2 r i) = x' (ix2 r' i)) (hb : bg = bg') :
    gated o x Wo Wg bg r j = gated o' x' Wo Wg bg' r' j := by
  unfold gated; simp only [ho, hx, hb]

/-- The body's value at an index. -/
theorem pay2_apply (x : FVec Ideal S256x1024 .f32) (Wg : FVec Ideal S1024x1024 .f32) (bg : FVec Ideal S1x1024 .f32)
    (o : FVec Ideal S256x512 .f32) (Wo : FVec Ideal S512x1024 .f32) (r : Fin 256) (j : Fin 1024) :
    k2_pay1 (F := Ideal) x Wg bg o Wo (ix2 r j) = gated o x Wo Wg (fun j => bg (ix2 0 j)) r j := by
  pointwise [k2_pay1, gated]

theorem pos2_0 : ∀ t : Fin cfg2.N, win2_0.index t = ![t.val, 0] := by decide +kernel
theorem pos2_1 : ∀ t : Fin cfg2.N, win2_1.index t = ![t.val, 0] := by decide +kernel
theorem pos2_2 : ∀ t : Fin cfg2.N, win2_2.index t = ![0, 0] := by decide +kernel
theorem pos2_3 : ∀ t : Fin cfg2.N, win2_3.index t = ![0, 0] := by decide +kernel
theorem pos2_4 : ∀ t : Fin cfg2.N, win2_4.index t = ![0, 0] := by decide +kernel
theorem pos2_5 : ∀ t : Fin cfg2.N, win2_5.index t = ![t.val, 0] := by decide +kernel

section
variable (V : (c : Dev nD) → (b : Ref sig .tc) → Buf (Elt Ideal) ((c : Thread nD τ).loc b)) (c : Dev nD)

/-- A row of a window whose blocks are 256 rows. -/
theorem rowB {a : ℕ} (t : Fin cfg2.N) (i : (⟨2, ![8192, a]⟩ : Shape).Idx) (r : Fin 256) (r' : Fin 8192) (l : Fin a)
    (hr : r'.val = 256 * t.val + r.val)
    (h0 : (i 0).val = t.val * 256 + 1 * r.val) (h1 : (i 1).val = 0 * a + 1 * l.val) : i = ix2 r' l := by
  funext k; apply Fin.ext
  match k with
  | ⟨0, _⟩ => show (i 0).val = r'.val; omega
  | ⟨1, _⟩ => show (i 1).val = l.val; omega

theorem in2_0 (t : Fin cfg2.N) (r : Fin 256) (r' : Fin 8192) (hr : r'.val = 256 * t.val + r.val) (l : Fin 512) :
    (iblk2 V c 0 t : FVec Ideal S256x512 .f32) (ix2 r l) = (V c main_v172 : FVec Ideal S8192x512 .f32) (ix2 r' l) := by
  unfold iblk2
  rw [View.read_apply]
  show V c main_v172 _ = _
  exact congrArg (V c main_v172) (rowB t _ r r' l hr (congrArg (· * 256 + 1 * r.val) (congrFun (pos2_0 t) 0))
    (congrArg (· * 512 + 1 * l.val) (congrFun (pos2_0 t) 1)))
theorem in2_1 (t : Fin cfg2.N) (r : Fin 256) (r' : Fin 8192) (hr : r'.val = 256 * t.val + r.val) (l : Fin 1024) :
    (iblk2 V c 1 t : FVec Ideal S256x1024 .f32) (ix2 r l) = (V c main_v0 : FVec Ideal S8192x1024 .f32) (ix2 r' l) := by
  unfold iblk2
  rw [View.read_apply]
  show V c main_v0 _ = _
  exact congrArg (V c main_v0) (rowB t _ r r' l hr (congrArg (· * 256 + 1 * r.val) (congrFun (pos2_1 t) 0))
    (congrArg (· * 1024 + 1 * l.val) (congrFun (pos2_1 t) 1)))
theorem in2_2 (t : Fin cfg2.N) : (iblk2 V c 2 t : FVec Ideal S512x1024 .f32) = V c main_arg6 := by
  funext j
  unfold iblk2
  rw [View.read_apply]
  show V c main_arg6 _ = V c main_arg6 j
  exact congrArg (V c main_arg6) (one_idx _ _ (congrArg (· * 512 + 1 * (j 0).val) (congrFun (pos2_2 t) 0))
    (congrArg (· * 1024 + 1 * (j 1).val) (congrFun (pos2_2 t) 1)))
theorem in2_3 (t : Fin cfg2.N) : (iblk2 V c 3 t : FVec Ideal S1024x1024 .f32) = V c main_arg15 := by
  funext j
  unfold iblk2
  rw [View.read_apply]
  show V c main_arg15 _ = V c main_arg15 j
  exact congrArg (V c main_arg15) (one_idx _ _ (congrArg (· * 1024 + 1 * (j 0).val) (congrFun (pos2_3 t) 0))
    (congrArg (· * 1024 + 1 * (j 1).val) (congrFun (pos2_3 t) 1)))
theorem in2_4 (t : Fin cfg2.N) : (iblk2 V c 4 t : FVec Ideal S8x1024 .f32) = V c main_v171 := by
  funext j
  unfold iblk2
  rw [View.read_apply]
  show V c main_v171 _ = V c main_v171 j
  exact congrArg (V c main_v171) (one_idx _ _ (congrArg (· * 8 + 1 * (j 0).val) (congrFun (pos2_4 t) 0))
    (congrArg (· * 1024 + 1 * (j 1).val) (congrFun (pos2_4 t) 1)))

theorem bias_ld (X : FVec Ideal S8x1024 .f32) :
    (fun j => (View.ld (Val := Elt Ideal) (e' := .f32) X r2_2 : FVec Ideal S1x1024 .f32) (ix2 0 j)) = fun j : Fin 1024 => X (ix2 0 j) := by
  funext j
  refine congrArg X ?_
  funext k; apply Fin.ext; rw [Rect.idx_unit_val]
  match k with
  | ⟨0, _⟩ => rfl
  | ⟨1, _⟩ => show 0 + j.val = j.val; omega

theorem out2_5_apply (x0 : FVec Ideal S256x512 .f32) (x1 : FVec Ideal S256x1024 .f32) (x2 : FVec Ideal S512x1024 .f32)
    (x3 : FVec Ideal S1024x1024 .f32) (x4 : FVec Ideal S8x1024 .f32) (r : Fin 256) (j : Fin 1024) :
    out2_5 (F := Ideal) x0 x1 x2 x3 x4 (ix2 r j) = gated x0 x1 x2 x3 (fun j => x4 (ix2 0 j)) r j := by
  have e : out2_5 (F := Ideal) x0 x1 x2 x3 x4 = k2_pay1 (F := Ideal) (View.ld x1 r2_0) (View.ld x3 r2_1) (View.ld x4 r2_2) (View.ld x0 r2_3) (View.ld x2 r2_4) :=
    View.canon_cons_unit_zero (Val := Elt Ideal) (S := S256x1024) (e := .f32) hz2 inb_S256x1024_S256x1024_0_0 _ []
  rw [e]
  refine (pay2_apply _ _ _ _ _ _ _).trans ?_
  rw [bias_ld, show View.ld (Val := Elt Ideal) (e' := .f32) x1 r2_0 = x1 from ld_zero (e := .f32) x1 hz2 _,
    show View.ld (Val := Elt Ideal) (e' := .f32) x3 r2_1 = x3 from ld_zero (e := .f32) x3 hz2 _,
    show View.ld (Val := Elt Ideal) (e' := .f32) x0 r2_3 = x0 from ld_zero (e := .f32) x0 hz2 _,
    show View.ld (Val := Elt Ideal) (e' := .f32) x2 r2_4 = x2 from ld_zero (e := .f32) x2 hz2 _]

/-- The output's array, whole. -/
def outA : FVec Ideal S8192x1024 .f32 := fun j => gated (V c main_v172 : FVec Ideal S8192x512 .f32)
  (V c main_v0 : FVec Ideal S8192x1024 .f32) (V c main_arg6) (V c main_arg15) (fun j => (V c main_v171 : FVec Ideal S8x1024 .f32) (ix2 0 j)) (j 0) (j 1)

theorem left2_5 (t : Fin cfg2.N) (i : S8192x1024.Idx) (j : S256x1024.Idx)
    (h0 : (i 0).val = t.val * 256 + 1 * (j 0).val) (h1 : (i 1).val = 0 * 1024 + 1 * (j 1).val) :
    out2_5 (F := Ideal) (iblk2 V c 0 t) (iblk2 V c 1 t) (iblk2 V c 2 t) (iblk2 V c 3 t) (iblk2 V c 4 t) j = outA V c i := by
  obtain ⟨r, l, rfl⟩ : ∃ r l, j = ix2 r l := ⟨j 0, j 1, eq_ix2 j⟩
  obtain ⟨r', l', rfl⟩ : ∃ r l, i = ix2 r l := ⟨i 0, i 1, eq_ix2 i⟩
  have h0' : r'.val = t.val * 256 + 1 * r.val := h0
  have h1' : l'.val = 0 * 1024 + 1 * l.val := h1
  have el : l' = l := Fin.ext (by omega)
  subst el
  rw [out2_5_apply, in2_2, in2_3, in2_4]
  exact gated_congr (in2_0 V c t r r' (by omega)) (in2_1 V c t r r' (by omega)) rfl

theorem arr2_5 : (dat2 V c).arrAt 5 cfg2.N = outA V c := by
  refine (dat2 V c).arrAt_eq_of_cover 5 (outA V c) (fun t _ => ?_) fun i => ?_
  · show (cfg2.win 5).cut (grid2.coords t) ((dat2 V c).after 5 t) = _
    rw [after2_5]
    funext j
    rw [View.read_apply]
    exact left2_5 V c t _ j (congrArg (· * 256 + 1 * (j 0).val) (congrFun (pos2_5 t) 0))
      (congrArg (· * 1024 + 1 * (j 1).val) (congrFun (pos2_5 t) 1))
  · have h0 : (i 0 : ℕ) < 8192 := (i 0).isLt
    have h1 : (i 1 : ℕ) < 1024 := (i 1).isLt
    let t : Fin cfg2.N := ⟨(i 0).val / 256, by rw [show cfg2.N = 32 from N_2]; omega⟩
    refine ⟨t, flush2_5 t, ?_⟩
    show i ∈ ((View.whole main_v173).slice (win2_5.rect t)).set
    rw [View.set_slice_whole, Rect.mem_set_unit]
    have p0 : win2_5.index t 0 = (i 0).val / 256 := congrFun (pos2_5 t) 0
    have p1 : win2_5.index t 1 = 0 := congrFun (pos2_5 t) 1
    intro a
    match a with
    | ⟨0, _⟩ => show win2_5.index t 0 * 256 ≤ (i 0 : ℕ) ∧ (i 0 : ℕ) < win2_5.index t 0 * 256 + 256; omega
    | ⟨1, _⟩ => show win2_5.index t 1 * 1024 ≤ (i 1 : ℕ) ∧ (i 1 : ℕ) < win2_5.index t 1 * 1024 + 1024; omega
end

end Delta

end
-- ==== Proof.Delta.Args.lean ====
/- The problem's arguments, the real numbers they hold, and the three results they lead to. -/
module

public import proofs.«01_k».proof.Proof.Delta.Tables
public import proofs.«01_k».proof.Proof.Delta.Region1
public import proofs.«01_k».proof.Proof.Delta.Region2

@[expose] public section

set_option maxRecDepth 16384

noncomputable section

namespace Delta

open Idealize.ShloMosaic
open Matrix (of)

/-- The arguments. -/
structure Args where
  x : FVec Ideal ⟨3, ![4, 2048, 1024]⟩ .f32
  mem : FVec Ideal ⟨4, ![4, 8, 64, 64]⟩ .f32
  buf : FVec Ideal ⟨4, ![4, 8, 64, 64]⟩ .f32
  Wk : FVec Ideal ⟨2, ![1024, 512]⟩ .f32
  Wv : FVec Ideal ⟨2, ![1024, 512]⟩ .f32
  Wq : FVec Ideal ⟨2, ![1024, 512]⟩ .f32
  Wo : FVec Ideal ⟨2, ![512, 1024]⟩ .f32
  gk : FVec Ideal ⟨1, ![64]⟩ .f32
  bk : FVec Ideal ⟨1, ![64]⟩ .f32
  gv : FVec Ideal ⟨1, ![64]⟩ .f32
  bv : FVec Ideal ⟨1, ![64]⟩ .f32
  gq : FVec Ideal ⟨1, ![64]⟩ .f32
  bq : FVec Ideal ⟨1, ![64]⟩ .f32
  ls : FVec Ideal ⟨1, ![8]⟩ .f32
  ms : FVec Ideal ⟨1, ![8]⟩ .f32
  Wg : FVec Ideal ⟨2, ![1024, 1024]⟩ .f32
  bg : FVec Ideal ⟨1, ![1024]⟩ .f32

/-- Every entry is a real number. -/
def Real' {S : Shape} (A : FVec Ideal S .f32) : Prop := ∀ j, A j = ((EReal.toReal (A j) : ℝ) : EReal)

/-- The arguments that must be real numbers are. -/
structure Args.Fin' (a : Args) : Prop where
  x : Real' a.x
  mem : Real' a.mem
  buf : Real' a.buf
  Wk : Real' a.Wk
  Wv : Real' a.Wv
  Wq : Real' a.Wq
  gv : Real' a.gv
  bv : Real' a.bv
  gq : Real' a.gq
  bq : Real' a.bq

/-- A vector's and a matrix's real entries. -/
def vr (A : FVec Ideal ⟨1, ![64]⟩ .f32) : Vc := fun d => EReal.toReal (A (ix1 d))
def wr (A : FVec Ideal ⟨2, ![1024, 512]⟩ .f32) : Fin 1024 → Fin 512 → ℝ := fun i l => EReal.toReal (A (ix2 i l))
/-- The input's rows, the batch's one after the other. -/
def xr (A : FVec Ideal ⟨3, ![4, 2048, 1024]⟩ .f32) (n : ℕ) (i : Fin 1024) : ℝ :=
  EReal.toReal (A (ix3 (Fin.ofNat 4 (n / 2048)) (Fin.ofNat 2048 (n % 2048)) i))
/-- A state's real entries. -/
def sr (A : FVec Ideal ⟨4, ![4, 8, 64, 64]⟩ .f32) (b : ℕ) (h : Fin 8) : Mt := of fun d e => EReal.toReal (A (ix4 (Fin.ofNat 4 b) h d e))

/-- The number of steps. -/
@[irreducible] def steps : ℕ := 2048
theorem steps_def : steps = 2048 := by unfold steps; rfl

namespace Args
variable (a : Args)

/-- The projections' data. -/
def proj : ProjData where
  x := xr a.x
  Wk := wr a.Wk
  Wv := wr a.Wv
  Wq := wr a.Wq
  gk := fun d => a.gk (ix1 d)
  bk := fun d => a.bk (ix1 d)
  gv := vr a.gv
  bv := vr a.bv
  gq := vr a.gq
  bq := vr a.bq

/-- The scan's data. -/
def scan : ScanData where
  k := fun b s => a.proj.kn (2048 * b + s)
  v := fun b s => a.proj.v (2048 * b + s)
  q := fun b s => a.proj.q (2048 * b + s)
  lr := fun h => lrOf (a.ls (ix1 h))
  mom := fun h => momOf (a.ms (ix1 h))
  s := fun b h => (sr a.mem b h, sr a.buf b h)

/-- The first result: the scan's outputs times the output weight, gated. -/
def y : FVec Ideal ⟨3, ![4, 2048, 1024]⟩ .f32 := fun j =>
  Ideal.logistic ((∑ i : Fin 1024, a.x (ix3 (j 0) (j 1) i) * a.Wg (ix2 i (j 2))) + a.bg (ix1 (j 2)))
    * ∑ l : Fin 512, ((a.scan.o (j 0).val (j 1).val (hd l) (ln l) : ℝ) : EReal) * a.Wo (ix2 l (j 2))
/-- The other two: the states after the last step. -/
def memOut : FVec Ideal ⟨4, ![4, 8, 64, 64]⟩ .f32 := fun j => (((a.scan.st (j 0).val (j 1) steps).1 (j 2) (j 3) : ℝ) : EReal)
def bufOut : FVec Ideal ⟨4, ![4, 8, 64, 64]⟩ .f32 := fun j => (((a.scan.st (j 0).val (j 1) steps).2 (j 2) (j 3) : ℝ) : EReal)
end Args

end Delta

end
-- ==== Proof.Delta.Start.lean ====
/- The first call starts from the arguments' data. -/
module

public import proofs.«01_k».proof.Proof.Delta.Args

@[expose] public section

set_option maxRecDepth 16384

noncomputable section

namespace Delta

open Idealize.ShloMosaic Cert.KernelIdeal Cert.KernelIdeal.Gen
open StableHlo (after)
open Matrix (of)

/-- The heads' mask at a pair of heads. -/
theorem word_head : ∀ a b : Fin 8, IntOp.cmpi .eq (IntOp.addi (BitVec.ofNat 32 a.val) 0#32) (BitVec.ofNat 32 b.val) = if a = b then 1#1 else 0#1 := by
  decide +kernel

section
variable (V : Valuation τ sig (Elt Ideal))

/-- The input's rows, one batch row after the other. -/
theorem x_read (j : S8192x1024.Idx) (hx : Real' (V (Proc.devRef .tc main_arg0) : FVec Ideal S4x2048x1024 .f32)) :
    (after hostOps0 V (Proc.devRef .tc main_v0) : FVec Ideal S8192x1024 .f32) j
      = ((xr (V (Proc.devRef .tc main_arg0) : FVec Ideal S4x2048x1024 .f32) (j 0).val (j 1) : ℝ) : EReal) := by
  obtain ⟨r, l, rfl⟩ : ∃ (r : Fin 8192) (l : Fin 1024), j = ix2 r l := ⟨j 0, j 1, eq_ix2 j⟩
  after_reads_simp
  pointwise
  refine (hx _).trans (congrArg (fun i => ((EReal.toReal ((V (Proc.devRef .tc main_arg0) : FVec Ideal S4x2048x1024 .f32) i) : ℝ) : EReal)) ?_)
  have := r.isLt
  funext a
  match a with
  | ⟨0, _⟩ => apply Fin.ext; show r.val / 2048 = (r.val / 2048) % 4; omega
  | ⟨1, _⟩ => apply Fin.ext; show r.val % 2048 = (r.val % 2048) % 2048; omega
  | ⟨2, _⟩ => rfl

/-- The heads' mask. -/
theorem blk_read (i j : Fin 512) : (after hostOps0_1 (after hostOps0 V) (Proc.devRef .tc main_v8) : FVec Ideal S512x512 .bf16) (ix2 i j)
    = ((blk i j : ℝ) : EReal) := by
  after_reads_simp
  simp -implicitDefEqProofs only [StableHlo.TRef.toBuf, StableHlo.TRef.ofBuf, cast_cast, cast_eq, id_eq]
  pointwise
  refine (congrArg (FloatOps.uitofp (F := Ideal) .bf16) (word_head (hd i) (hd j))).trans ?_
  show _ = (((if hd i = hd j then 1 else 0 : ℝ)) : EReal)
  by_cases h : hd i = hd j
  · rw [if_pos h, if_pos h]
    show (((1#1 : BitVec 1).toNat : ℝ) : EReal) = _
    simp
  · rw [if_neg h, if_neg h]
    show (((0#1 : BitVec 1).toNat : ℝ) : EReal) = _
    simp

/- The gains and the offsets of all heads, one row. -/
theorem gk_read (l : Fin 512) : (after hostOps0_2 V (Proc.devRef .tc main_v21) : FVec Ideal S8x1536 .f32) (ix2 0 ⟨l.val, by omega⟩)
    = (V (Proc.devRef .tc main_arg7) : FVec Ideal S64 .f32) (ix1 (ln l)) := by
  after_reads_simp
  pointwise
  after_reads_simp
  pointwise
  rfl
theorem gv_read (l : Fin 512) : (after hostOps0_2 V (Proc.devRef .tc main_v21) : FVec Ideal S8x1536 .f32) (ix2 0 ⟨512 + l.val, by omega⟩)
    = (V (Proc.devRef .tc main_arg9) : FVec Ideal S64 .f32) (ix1 (ln l)) := by
  after_reads_simp
  pointwise
  after_reads_simp
  pointwise
  rfl
theorem gq_read (l : Fin 512) : (after hostOps0_2 V (Proc.devRef .tc main_v21) : FVec Ideal S8x1536 .f32) (ix2 0 ⟨1024 + l.val, by omega⟩)
    = (V (Proc.devRef .tc main_arg11) : FVec Ideal S64 .f32) (ix1 (ln l)) := by
  after_reads_simp
  pointwise
  after_reads_simp
  pointwise
  rw [dif_neg (by omega), dif_neg (by omega)]
  exact congrArg (V (Proc.devRef .tc main_arg11) : FVec Ideal S64 .f32) (congrArg ix1 (Fin.ext (by show (1024 + l.val - 512 - 512) % 64 = l.val % 64; omega)))
theorem bk_read (l : Fin 512) : (after hostOps0_2 V (Proc.devRef .tc main_v34) : FVec Ideal S8x1536 .f32) (ix2 0 ⟨l.val, by omega⟩)
    = (V (Proc.devRef .tc main_arg8) : FVec Ideal S64 .f32) (ix1 (ln l)) := by
  after_reads_simp
  pointwise
  after_reads_simp
  pointwise
  rfl
theorem bv_read (l : Fin 512) : (after hostOps0_2 V (Proc.devRef .tc main_v34) : FVec Ideal S8x1536 .f32) (ix2 0 ⟨512 + l.val, by omega⟩)
    = (V (Proc.devRef .tc main_arg10) : FVec Ideal S64 .f32) (ix1 (ln l)) := by
  after_reads_simp
  pointwise
  after_reads_simp
  pointwise
  rfl
theorem bq_read (l : Fin 512) : (after hostOps0_2 V (Proc.devRef .tc main_v34) : FVec Ideal S8x1536 .f32) (ix2 0 ⟨1024 + l.val, by omega⟩)
    = (V (Proc.devRef .tc main_arg12) : FVec Ideal S64 .f32) (ix1 (ln l)) := by
  after_reads_simp
  pointwise
  after_reads_simp
  pointwise
  rw [dif_neg (by omega), dif_neg (by omega)]
  exact congrArg (V (Proc.devRef .tc main_arg12) : FVec Ideal S64 .f32) (congrArg ix1 (Fin.ext (by show (1024 + l.val - 512 - 512) % 64 = l.val % 64; omega)))
end

section
variable (m : (ℓ : Loc nD τ sig) → Buf (Elt Ideal) ℓ) (ρ : Dev nD → PrngReg) (c : Dev nD)

/-- The arguments a launch starts from. -/
def argsK : Args where
  x := m ((c.tc : Thread nD τ).loc main_arg0)
  mem := m ((c.tc : Thread nD τ).loc main_arg1)
  buf := m ((c.tc : Thread nD τ).loc main_arg2)
  Wk := m ((c.tc : Thread nD τ).loc main_arg3)
  Wv := m ((c.tc : Thread nD τ).loc main_arg4)
  Wq := m ((c.tc : Thread nD τ).loc main_arg5)
  Wo := m ((c.tc : Thread nD τ).loc main_arg6)
  gk := m ((c.tc : Thread nD τ).loc main_arg7)
  bk := m ((c.tc : Thread nD τ).loc main_arg8)
  gv := m ((c.tc : Thread nD τ).loc main_arg9)
  bv := m ((c.tc : Thread nD τ).loc main_arg10)
  gq := m ((c.tc : Thread nD τ).loc main_arg11)
  bq := m ((c.tc : Thread nD τ).loc main_arg12)
  ls := m ((c.tc : Thread nD τ).loc main_arg13)
  ms := m ((c.tc : Thread nD τ).loc main_arg14)
  Wg := m ((c.tc : Thread nD τ).loc main_arg15)
  bg := m ((c.tc : Thread nD τ).loc main_arg16)

/-- What the lines before the rates, and the rates' own, write is left alone up to the first call. -/
theorem late (r : Ref sig .tc) (h : r ∉ hostOps0_3_W ∧ r ∉ hostOps0_4_W ∧ r ∉ hostOps0_5_W ∧ r ∉ hostOps0_6_W ∧ r ∉ hostOps0_7_W
    ∧ r ∉ hostOps0_8_W ∧ r ∉ hostOps0_9_W ∧ r ∉ hostOps0_10_W) :
    W11 m ρ c (Proc.devRef .tc r) = W3 m ρ c (Proc.devRef .tc r) := by
  obtain ⟨h3, h4, h5, h6, h7, h8, h9, h10⟩ := h
  exact (W11_of m ρ c r h10).trans <| (W10_of m ρ c r h9).trans <| (W9_of m ρ c r h8).trans <| (W8_of m ρ c r h7).trans <|
    (W7_of m ρ c r h6).trans <| (W6_of m ρ c r h5).trans <| (W5_of m ρ c r h4).trans (W4_of m ρ c r h3)

/-- A gain of the argument's real entries. -/
theorem vr_eq {A : FVec Ideal S64 .f32} (hA : Real' A) (d : Fin 64) : A (ix1 d) = ((vr A d : ℝ) : EReal) := hA _
theorem wr_eq {A : FVec Ideal S1024x512 .f32} (hA : Real' A) : A = cm .f32 (of (wr A)) := by
  funext j
  obtain ⟨r, l, rfl⟩ : ∃ (r : Fin 1024) (l : Fin 512), j = ix2 r l := ⟨j 0, j 1, eq_ix2 j⟩
  exact hA _

/-- The first call starts from the arguments' data. -/
theorem holds0 (H : (argsK m c).Fin') : Holds0 (V11 m ρ) c (argsK m c).proj where
  x := by
    refine (late m ρ c main_v0 (by decide)).trans <| (W3_of m ρ c main_v0 (by decide)).trans <| (W2_of m ρ c main_v0 (by decide)).trans ?_
    funext j
    exact x_read (W0 m ρ c) j H.x
  Wk := (W11_args m ρ c main_arg3 (by decide)).trans (wr_eq H.Wk)
  Wv := (W11_args m ρ c main_arg4 (by decide)).trans (wr_eq H.Wv)
  Wq := (W11_args m ρ c main_arg5 (by decide)).trans (wr_eq H.Wq)
  blk := by
    refine (late m ρ c main_v8 (by decide)).trans <| (W3_of m ρ c main_v8 (by decide)).trans ?_
    funext j
    obtain ⟨r, l, rfl⟩ : ∃ (r : Fin 512) (l : Fin 512), j = ix2 r l := ⟨j 0, j 1, eq_ix2 j⟩
    exact blk_read (W0 m ρ c) r l
  gk l := (congrFun (late m ρ c main_v21 (by decide)) _).trans <| (gk_read (W2 m ρ c) l).trans <|
    congrFun (W2_args m ρ c main_arg7 (by decide)) _
  gv l := (congrFun (late m ρ c main_v21 (by decide)) _).trans <| (gv_read (W2 m ρ c) l).trans <|
    (congrFun (W2_args m ρ c main_arg9 (by decide)) _).trans (vr_eq H.gv _)
  gq l := (congrFun (late m ρ c main_v21 (by decide)) _).trans <| (gq_read (W2 m ρ c) l).trans <|
    (congrFun (W2_args m ρ c main_arg11 (by decide)) _).trans (vr_eq H.gq _)
  bk l := (congrFun (late m ρ c main_v34 (by decide)) _).trans <| (bk_read (W2 m ρ c) l).trans <|
    congrFun (W2_args m ρ c main_arg8 (by decide)) _
  bv l := (congrFun (late m ρ c main_v34 (by decide)) _).trans <| (bv_read (W2 m ρ c) l).trans <|
    (congrFun (W2_args m ρ c main_arg10 (by decide)) _).trans (vr_eq H.bv _)
  bq l := (congrFun (late m ρ c main_v34 (by decide)) _).trans <| (bq_read (W2 m ρ c) l).trans <|
    (congrFun (W2_args m ρ c main_arg12 (by decide)) _).trans (vr_eq H.bq _)

end

end Delta

end
-- ==== Proof.Delta.Second.lean ====
/- The second call starts from the first's results and the host's tables; the third from the second's. -/
module

public import proofs.«01_k».proof.Proof.Delta.Start

@[expose] public section

set_option maxRecDepth 16384

noncomputable section

namespace Delta

open Idealize.ShloMosaic Cert.KernelIdeal Cert.KernelIdeal.Gen
open StableHlo (after)
open Matrix (of)

section
variable (V : Valuation τ sig (Elt Ideal))

/-- A sequence's rows, by batch row and step. -/
theorem seqA_of (x : ℕ → Fin 8 → Vc) (A : FVec Ideal S8192x512 .f32) (hA : A = seq2 x) :
    shapeCast S4x2048x512 A shapeCasts_S8192x512_S4x2048x512 = seqA fun b s => x (2048 * b + s) := by
  subst hA
  funext j
  obtain ⟨b, s, l, rfl⟩ : ∃ (b : Fin 4) (s : Fin 2048) (l : Fin 512), j = ix3 b s l := ⟨j 0, j 1, j 2, eq_ix3 j⟩
  pointwise
  show ((x (b.val * 2048 + s.val) (hd l) (ln l) : ℝ) : EReal) = ((x (2048 * b.val + s.val) (hd l) (ln l) : ℝ) : EReal)
  rw [Nat.mul_comm]
/-- And back. -/
theorem rows_of (x : ℕ → ℕ → Fin 8 → Vc) (r : Fin 8192) (l : Fin 512) :
    shapeCast S8192x512 (seqA x) shapeCasts_S4x2048x512_S8192x512 (ix2 r l)
      = ((x (r.val / 2048) (r.val % 2048) (hd l) (ln l) : ℝ) : EReal) := by
  pointwise
  rfl
/-- The states, transposed. -/
theorem stA_of (A : FVec Ideal S4x8x64x64 .f32) (hA : Real' A) :
    transpose S4x8x64x64 [0, 1, 3, 2] A transposes_S4x8x64x64_S4x8x64x64_0_1_3_2 = stA fun b h => sr A b h := by
  funext j
  obtain ⟨b, h, d, e, rfl⟩ : ∃ (b : Fin 4) (h : Fin 8) (d e : Fin 64), j = ix4 b h d e := ⟨j 0, j 1, j 2, j 3, eq_ix4 j⟩
  pointwise
  have hb : (Fin.ofNat 4 b.val : Fin 4) = b := Fin.ext (Nat.mod_eq_of_lt b.isLt)
  refine (hA _).trans ?_
  show _ = ((EReal.toReal (A (ix4 (Fin.ofNat 4 b.val) h e d)) : ℝ) : EReal)
  rw [hb]
/-- And back. -/
theorem stA_back (x : ℕ → Fin 8 → Mt) :
    transpose S4x8x64x64 [0, 1, 3, 2] (stA x) transposes_S4x8x64x64_S4x8x64x64_0_1_3_2
      = fun j : S4x8x64x64.Idx => ((x (j 0).val (j 1) (j 2) (j 3) : ℝ) : EReal) := by
  funext j
  obtain ⟨b, h, d, e, rfl⟩ : ∃ (b : Fin 4) (h : Fin 8) (d e : Fin 64), j = ix4 b h d e := ⟨j 0, j 1, j 2, j 3, eq_ix4 j⟩
  pointwise
  rfl
/-- The input's rows. -/
theorem x_at (r : Fin 8192) (i : Fin 1024) : (after hostOps0 V (Proc.devRef .tc main_v0) : FVec Ideal S8192x1024 .f32) (ix2 r i)
    = (V (Proc.devRef .tc main_arg0) : FVec Ideal S4x2048x1024 .f32) (ix3 ⟨r.val / 2048, by omega⟩ ⟨r.val % 2048, by omega⟩ i) := by
  after_reads_simp
  pointwise
/-- The gate's bias as its row. -/
theorem bias_read (l : Fin 1024) : (after hostOps2 V (Proc.devRef .tc main_v171) : FVec Ideal S8x1024 .f32) (ix2 0 l)
    = (V (Proc.devRef .tc main_arg16) : FVec Ideal S1024 .f32) (ix1 l) := by
  after_reads_simp
  pointwise
end

section
variable (m : (ℓ : Loc nD τ sig) → Buf (Elt Ideal) ℓ) (ρ : Dev nD → PrngReg) (c : Dev nD)

theorem to6 (r : Ref sig .tc) (h : r ∉ hostOps0_3_W ∧ r ∉ hostOps0_4_W ∧ r ∉ hostOps0_5_W) :
    W6 m ρ c (Proc.devRef .tc r) = W3 m ρ c (Proc.devRef .tc r) := by
  obtain ⟨h3, h4, h5⟩ := h
  exact (W6_of m ρ c r h5).trans <| (W5_of m ρ c r h4).trans (W4_of m ρ c r h3)
theorem to8 (r : Ref sig .tc) (h : r ∉ hostOps0_6_W ∧ r ∉ hostOps0_7_W) :
    W8 m ρ c (Proc.devRef .tc r) = W6 m ρ c (Proc.devRef .tc r) := by
  obtain ⟨h6, h7⟩ := h
  exact (W8_of m ρ c r h7).trans (W7_of m ρ c r h6)
theorem to10 (r : Ref sig .tc) (h : r ∉ hostOps0_8_W ∧ r ∉ hostOps0_9_W) :
    W10 m ρ c (Proc.devRef .tc r) = W8 m ρ c (Proc.devRef .tc r) := by
  obtain ⟨h6, h7⟩ := h
  exact (W10_of m ρ c r h7).trans (W9_of m ρ c r h6)

/-- Equal arrays hold the same rates. -/
theorem Rates.of {lr mom : Fin 8 → ℝ} {V V' : Valuation τ sig (Elt Ideal)} (R : Rates lr mom V)
    (h1 : V' (Proc.devRef .tc main_v44) = V (Proc.devRef .tc main_v44)) (h2 : V' (Proc.devRef .tc main_v55) = V (Proc.devRef .tc main_v55))
    (h3 : V' (Proc.devRef .tc main_v61) = V (Proc.devRef .tc main_v61)) : Rates lr mom V' where
  a h := (congrFun h1 _).trans (R.a h)
  lm h := (congrFun h2 _).trans (R.lm h)
  pw h k := (congrFun h3 _).trans (R.pw h k)

theorem rates3 : Rates (argsK m c).scan.lr (argsK m c).scan.mom (W3 m ρ c) := by
  have h := rates_read (W2 m ρ c)
  have e1 : lrV (W2 m ρ c) = (argsK m c).scan.lr := funext fun h => congrArg lrOf (congrFun (W2_args m ρ c main_arg13 (by decide)) _)
  have e2 : momV (W2 m ρ c) = (argsK m c).scan.mom := funext fun h => congrArg momOf (congrFun (W2_args m ρ c main_arg14 (by decide)) _)
  rw [e1, e2] at h
  exact h
theorem rates6 : Rates (argsK m c).scan.lr (argsK m c).scan.mom (W6 m ρ c) :=
  (rates3 m ρ c).of (to6 m ρ c main_v44 (by decide)) (to6 m ρ c main_v55 (by decide)) (to6 m ρ c main_v61 (by decide))
theorem rates8 : Rates (argsK m c).scan.lr (argsK m c).scan.mom (W8 m ρ c) :=
  (rates6 m ρ c).of (to8 m ρ c main_v44 (by decide)) (to8 m ρ c main_v55 (by decide)) (to8 m ρ c main_v61 (by decide))
theorem rates10 : Rates (argsK m c).scan.lr (argsK m c).scan.mom (W10 m ρ c) :=
  (rates8 m ρ c).of (to10 m ρ c main_v44 (by decide)) (to10 m ρ c main_v55 (by decide)) (to10 m ρ c main_v61 (by decide))

theorem geo6 (h : Fin 8) (k : Fin 65) : (W6 m ρ c (Proc.devRef .tc main_v65) : FVec Ideal S8x65 .f32) (ix2 h k)
    = ((geo ((argsK m c).scan.mom h) k.val : ℝ) : EReal) :=
  (congrFun (W6_of m ρ c main_v65 (by decide)) _).trans (geo_read (W2 m ρ c) (rates3 m ρ c) h k)
theorem geo10 (h : Fin 8) (k : Fin 65) : (W10 m ρ c (Proc.devRef .tc main_v65) : FVec Ideal S8x65 .f32) (ix2 h k)
    = ((geo ((argsK m c).scan.mom h) k.val : ℝ) : EReal) :=
  (congrFun ((to10 m ρ c main_v65 (by decide)).trans (to8 m ρ c main_v65 (by decide))) _).trans (geo6 m ρ c h k)
theorem mask6 (i r : Fin 64) : (W6 m ρ c (Proc.devRef .tc main_v72) : IVec S64x64 1) (ix2 i r) = if r < i then 1#1 else 0#1 :=
  (congrFun (W6_of m ρ c main_v72 (by decide)) _).trans (mask_read (W4 m ρ c) i r)
theorem look7 (h : Fin 8) (i r : Fin 64) (hir : r < i) : (W7 m ρ c (Proc.devRef .tc main_v85) : FVec Ideal S8x64x64 .f32) (ix3 h i r)
    = ((geo ((argsK m c).scan.mom h) (i.val - 1 - r.val) : ℝ) : EReal) :=
  (congrFun (look_read (W6 m ρ c)) _).trans <|
    (gather_pair _ _ h i r ⟨i.val - 1 - r.val, by omega⟩ (between_read (W4 m ρ c) i r hir)).trans (geo6 m ρ c h _)

theorem cols13 : V13 m ρ c main_v161 = W11 m ρ c (Proc.devRef .tc main_v161) :=
  (W13_of m ρ c main_v161 (by decide)).trans (W12_of m ρ c main_v161 (by decide))

/-- The host's tables are the scan's weights. -/
theorem tables : Tables (argsK m c).scan.lr (argsK m c).scan.mom (V13 m ρ c main_v95) (V13 m ρ c main_v103) (V13 m ρ c main_v161) where
  P h i r := by
    have e : V13 m ρ c main_v95 = W8 m ρ c (Proc.devRef .tc main_v95) :=
      (W13_of m ρ c main_v95 (by decide)).trans <| (W12_of m ρ c main_v95 (by decide)).trans <|
        (W11_of m ρ c main_v95 (by decide)).trans (to10 m ρ c main_v95 (by decide))
    refine (congrFun e _).trans ?_
    exact p_read (W6 m ρ c) h i r _ _ _ ((rates6 m ρ c).a h) ((rates6 m ρ c).lm h) (mask6 m ρ c i r) (look7 m ρ c h i r)
  Q h i r := by
    have e : V13 m ρ c main_v103 = W10 m ρ c (Proc.devRef .tc main_v103) :=
      (W13_of m ρ c main_v103 (by decide)).trans <| (W12_of m ρ c main_v103 (by decide)).trans (W11_of m ρ c main_v103 (by decide))
    refine (congrFun e _).trans ?_
    exact q_read (W8 m ρ c) h i r _ _ _ ((rates8 m ρ c).a h) ((rates8 m ρ c).lm h)
      ((congrFun (to8 m ρ c main_v72 (by decide)) _).trans (mask6 m ρ c i r))
      fun hir => (congrFun (W8_of m ρ c main_v85 (by decide)) _).trans (look7 m ρ c h i r hir)
  c0 h i := (congrFun (cols13 m ρ c) _).trans (col0_read (W10 m ρ c) (rates10 m ρ c) (geo10 m ρ c) h i)
  c1 h i := (congrFun (cols13 m ρ c) _).trans (col1_read (W10 m ρ c) (rates10 m ρ c) (geo10 m ρ c) h i)
  c2 h i := (congrFun (cols13 m ρ c) _).trans (col2_read (W10 m ρ c) (rates10 m ρ c) (geo10 m ρ c) h i)
  c3 h i := (congrFun (cols13 m ρ c) _).trans (col3_read (W10 m ρ c) (rates10 m ρ c) h i)
  c4 h i := (congrFun (cols13 m ρ c) _).trans (col4_read (W10 m ρ c) (rates10 m ρ c) (geo10 m ρ c) h i)
  c5 h i := (congrFun (cols13 m ρ c) _).trans (col5_read (W10 m ρ c) (rates10 m ρ c) h i)

/-- The scan starts from the arguments' data. -/
theorem holds1 (H : (argsK m c).Fin') : Holds (V13 m ρ) c (argsK m c).scan where
  k := (by after_reads_simp; rfl : V13 m ρ c main_v163 = shapeCast S4x2048x512 (W12 m ρ c (Proc.devRef .tc main_v162_0) : FVec Ideal S8192x512 .f32) shapeCasts_S8192x512_S4x2048x512).trans
    (seqA_of _ _ ((W12_arr m ρ c 7).trans (arr0_7 (holds0 m ρ c H))))
  v := (by after_reads_simp; rfl : V13 m ρ c main_v164 = shapeCast S4x2048x512 (W12 m ρ c (Proc.devRef .tc main_v162_1) : FVec Ideal S8192x512 .f32) shapeCasts_S8192x512_S4x2048x512).trans
    (seqA_of _ _ ((W12_arr m ρ c 8).trans (arr0_8 (holds0 m ρ c H))))
  q := (by after_reads_simp; rfl : V13 m ρ c main_v165 = shapeCast S4x2048x512 (W12 m ρ c (Proc.devRef .tc main_v162_2) : FVec Ideal S8192x512 .f32) shapeCasts_S8192x512_S4x2048x512).trans
    (seqA_of _ _ ((W12_arr m ρ c 9).trans (arr0_9 (holds0 m ρ c H))))
  tab := tables m ρ c
  s1 := (by after_reads_simp : V13 m ρ c main_v166 = transpose S4x8x64x64 [0, 1, 3, 2] (W12 m ρ c (Proc.devRef .tc main_arg1) : FVec Ideal S4x8x64x64 .f32) transposes_S4x8x64x64_S4x8x64x64_0_1_3_2).trans <|
    (congrArg (fun A : FVec Ideal S4x8x64x64 .f32 => transpose S4x8x64x64 [0, 1, 3, 2] A transposes_S4x8x64x64_S4x8x64x64_0_1_3_2) (W12_args m ρ c main_arg1 (by decide))).trans (stA_of _ H.mem)
  s2 := (by after_reads_simp : V13 m ρ c main_v167 = transpose S4x8x64x64 [0, 1, 3, 2] (W12 m ρ c (Proc.devRef .tc main_arg2) : FVec Ideal S4x8x64x64 .f32) transposes_S4x8x64x64_S4x8x64x64_0_1_3_2).trans <|
    (congrArg (fun A : FVec Ideal S4x8x64x64 .f32 => transpose S4x8x64x64 [0, 1, 3, 2] A transposes_S4x8x64x64_S4x8x64x64_0_1_3_2) (W12_args m ρ c main_arg2 (by decide))).trans (stA_of _ H.buf)

/-- The third call's array holds the scan's outputs. -/
theorem rows15 (H : (argsK m c).Fin') : (V15 m ρ c main_v172 : FVec Ideal S8192x512 .f32)
    = shapeCast S8192x512 (seqA (argsK m c).scan.o) shapeCasts_S4x2048x512_S8192x512 := by
  have e : W14 m ρ c (Proc.devRef .tc main_v168_0) = seqA (argsK m c).scan.o := (W14_arr m ρ c 8).trans (scan_o (holds1 m ρ c H))
  rw [← e]
  after_reads_simp
  rfl

/-- The input's rows stay as they are up to the third call. -/
theorem x15 (r : Fin 8192) (i : Fin 1024) : (V15 m ρ c main_v0 : FVec Ideal S8192x1024 .f32) (ix2 r i)
    = (argsK m c).x (ix3 ⟨r.val / 2048, by omega⟩ ⟨r.val % 2048, by omega⟩ i) := by
  have e : V15 m ρ c main_v0 = W1 m ρ c (Proc.devRef .tc main_v0) :=
    (W15_of m ρ c main_v0 (by decide)).trans <| (W14_of m ρ c main_v0 (by decide)).trans <| (W13_of m ρ c main_v0 (by decide)).trans <|
      (W12_of m ρ c main_v0 (by decide)).trans <| (late m ρ c main_v0 (by decide)).trans <| (W3_of m ρ c main_v0 (by decide)).trans
        (W2_of m ρ c main_v0 (by decide))
  refine (congrFun e _).trans (x_at (W0 m ρ c) r i)

/-- The first result. -/
theorem result_y (H : (argsK m c).Fin') : W17 m ρ c (Proc.devRef .tc main_v174) = (argsK m c).y := by
  have e : W16 m ρ c (Proc.devRef .tc main_v173) = outA (V15 m ρ) c := (W16_arr m ρ c 5).trans (arr2_5 (V15 m ρ) c)
  have e' : (W17 m ρ c (Proc.devRef .tc main_v174) : FVec Ideal S4x2048x1024 .f32)
      = shapeCast S4x2048x1024 (outA (V15 m ρ) c) shapeCasts_S8192x1024_S4x2048x1024 := by
    rw [← e]; after_reads_simp; rfl
  refine e'.trans ?_
  funext j
  obtain ⟨b, s, l, rfl⟩ : ∃ (b : Fin 4) (s : Fin 2048) (l : Fin 1024), j = ix3 b s l := ⟨j 0, j 1, j 2, eq_ix3 j⟩
  pointwise
  have hr : b.val * 2048 + s.val < 8192 := by omega
  have hb : (b.val * 2048 + s.val) / 2048 = b.val := by omega
  have hs : (b.val * 2048 + s.val) % 2048 = s.val := by omega
  refine congrArg₂ (· * ·) (congrArg Ideal.logistic (congrArg₂ (· + ·) (Finset.sum_congr rfl fun i _ => congrArg₂ (· * ·) ?_ ?_) ?_))
    (Finset.sum_congr rfl fun i _ => congrArg₂ (· * ·) ?_ ?_)
  · refine (x15 m ρ c ⟨b.val * 2048 + s.val, hr⟩ i).trans (congrArg (argsK m c).x ?_)
    funext a
    match a with
    | ⟨0, _⟩ => exact Fin.ext hb
    | ⟨1, _⟩ => exact Fin.ext hs
    | ⟨2, _⟩ => rfl
  · exact congrFun (W15_args m ρ c main_arg15 (by decide)) _
  · exact (bias_read (W14 m ρ c) l).trans (congrFun (W14_args m ρ c main_arg16 (by decide)) _)
  · refine (congrFun (rows15 m ρ c H) _).trans <| (rows_of _ ⟨b.val * 2048 + s.val, hr⟩ i).trans ?_
    show (((argsK m c).scan.o ((b.val * 2048 + s.val) / 2048) ((b.val * 2048 + s.val) % 2048) (hd i) (ln i) : ℝ) : EReal) = _
    rw [hb, hs]; rfl
  · exact congrFun (W15_args m ρ c main_arg6 (by decide)) _

/-- The second and the third. -/
theorem result_mem (H : (argsK m c).Fin') : W17 m ρ c (Proc.devRef .tc main_v175) = (argsK m c).memOut := by
  have e : W16 m ρ c (Proc.devRef .tc main_v168_1) = stA fun b h => ((argsK m c).scan.st b h steps).1 :=
    (W16_of m ρ c main_v168_1 (by decide)).trans <| (W15_of m ρ c main_v168_1 (by decide)).trans <|
      (W14_arr m ρ c 9).trans (scan_mem (holds1 m ρ c H) steps steps_def.symm)
  refine Eq.trans ?_ (stA_back fun b h => ((argsK m c).scan.st b h steps).1)
  rw [← e]; after_reads_simp
theorem result_buf (H : (argsK m c).Fin') : W17 m ρ c (Proc.devRef .tc main_v176) = (argsK m c).bufOut := by
  have e : W16 m ρ c (Proc.devRef .tc main_v168_2) = stA fun b h => ((argsK m c).scan.st b h steps).2 :=
    (W16_of m ρ c main_v168_2 (by decide)).trans <| (W15_of m ρ c main_v168_2 (by decide)).trans <|
      (W14_arr m ρ c 10).trans (scan_buf (holds1 m ρ c H) steps steps_def.symm)
  refine Eq.trans ?_ (stA_back fun b h => ((argsK m c).scan.st b h steps).2)
  rw [← e]; after_reads_simp
end

end Delta

end
-- ==== Proof.Delta.KernelRun.lean ====
/- A run of the kernel's program, from the launch to the three results. -/
module

public import proofs.«01_k».proof.Proof.Delta.Second

@[expose] public section

set_option maxRecDepth 16384

noncomputable section

namespace Delta

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- No argument is a call's own buffer. -/
theorem args_unscoped : ∀ a ∈ argRefs, ¬ (Proc.devRef .tc a : DevRef τ sig).isScoped := by decide

/-- A run of the program ends with every argument as it was and the three results as the last line leaves them. -/
theorem run_end : θ_run defs (onTc (τ := τ) (main (F := Ideal))) ⟨m, fun _ => 0, ρ⟩ (fun r => (∀ c : Dev nD,
      r.2.mem ((c.tc : Thread nD τ).loc main_v174) = W17 m ρ c (Proc.devRef .tc main_v174)
      ∧ r.2.mem ((c.tc : Thread nD τ).loc main_v175) = W17 m ρ c (Proc.devRef .tc main_v175)
      ∧ r.2.mem ((c.tc : Thread nD τ).loc main_v176) = W17 m ρ c (Proc.devRef .tc main_v176)
      ∧ ∀ a ∈ argRefs, r.2.mem ((c.tc : Thread nD τ).loc a) = m ((c.tc : Thread nD τ).loc a))) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => fun c =>
      ⟨h c _ (mem_uc main_v174 (by decide)), h c _ (mem_uc main_v175 (by decide)), h c _ (mem_uc main_v176 (by decide)),
       fun a ha => (h c _ (mem_uc a (args_unscoped a ha))).trans (W17_args m ρ c a ha)⟩)

/-- A run of the program ends with the results of the arguments' data. -/
theorem kernel_run (H : ∀ c, (argsK m c).Fin') : θ_run defs (onTc (τ := τ) (main (F := Ideal))) ⟨m, fun _ => 0, ρ⟩ (fun r => (∀ c : Dev nD,
      r.2.mem ((c.tc : Thread nD τ).loc main_v174) = (argsK m c).y
      ∧ r.2.mem ((c.tc : Thread nD τ).loc main_v175) = (argsK m c).memOut
      ∧ r.2.mem ((c.tc : Thread nD τ).loc main_v176) = (argsK m c).bufOut
      ∧ ∀ a ∈ argRefs, r.2.mem ((c.tc : Thread nD τ).loc a) = m ((c.tc : Thread nD τ).loc a))) := by
  have h := run_end m ρ
  simp only [result_y m ρ _ (H _), result_mem m ρ _ (H _), result_buf m ρ _ (H _)] at h
  exact h

end Delta

end
-- ==== Proof.Delta.RefStep.lean ====
/- One step of the reference's loop on real data. -/
module

public import proofs.«01_k».proof.Proof.Delta.Args
public import proofs.«01_k».proof.Proof.Gen.ReferenceIdeal.Run
public import Idealize.ShloMosaic.Lib.DynamicIndex

@[expose] public section

set_option maxRecDepth 16384

noncomputable section

namespace Delta

open Idealize.ShloMosaic Cert.ReferenceIdeal Cert.ReferenceIdeal.Gen Cert.ReferenceIdeal.Value
open Matrix (of)

/-- Where a step's row starts. -/
abbrev rowAt (i : IVec S_ 32) : Fin 4 → Int :=
  fun k => ((![i, constantI S_ 32 0#32, constantI S_ 32 0#32, constantI S_ 32 0#32] : Fin 4 → (⟨S_, .i32⟩ : BufTy).Contents (Elt Ideal)) k
    (Shape.Idx.first h_S_)).toInt

theorem rowAt_eq (i : IVec S_ 32) (n : ℕ) (hn : n < 2048) (hi : i = fun _ => BitVec.ofNat 32 n) (a : Fin 4) :
    rowAt i a = ((![n, 0, 0, 0] : Fin 4 → ℕ) a : ℤ) := by
  subst hi
  match a with
  | ⟨0, _⟩ => exact toInt_ofNat_of_lt (by omega)
  | ⟨1, _⟩ => rfl
  | ⟨2, _⟩ => rfl
  | ⟨3, _⟩ => rfl

theorem row_slices (n : ℕ) (hn : n < 2048) : S2048x4x8x64.Slices ![n, 0, 0, 0] S1x4x8x64 :=
  ⟨rfl, fun a => match a with
    | ⟨0, _⟩ => (by show n + 1 ≤ 2048; omega)
    | ⟨1, _⟩ => (by show 0 + 4 ≤ 4; omega)
    | ⟨2, _⟩ => (by show 0 + 8 ≤ 8; omega)
    | ⟨3, _⟩ => (by show 0 + 64 ≤ 64; omega)⟩

/-- A step's row of a sequence. -/
theorem row_read (x : FVec Ideal S2048x4x8x64 .f32) (i : IVec S_ 32) (n : ℕ) (hn : n < 2048) (hi : i = fun _ => BitVec.ofNat 32 n)
    (b : Fin 4) (h : Fin 8) (d : Fin 64) :
    shapeCast S4x8x64 (Host.dynamicSlice S1x4x8x64 x (rowAt i) sliceFits_S2048x4x8x64_S1x4x8x64) shapeCasts_S1x4x8x64_S4x8x64 (ix3 b h d)
      = x (ix4 ⟨n, hn⟩ b h d) := by
  rw [Host.dynamicSlice_eq_extractStridedSlice S1x4x8x64 x (rowAt i) ![n, 0, 0, 0] _ (row_slices n hn) (rowAt_eq i n hn hi)]
  pointwise

/-- Writing a step's row: that row is the new one, the others stay. -/
theorem row_write (x : FVec Ideal S2048x4x8x64 .f32) (u : FVec Ideal S4x8x64 .f32) (i : IVec S_ 32) (n : ℕ) (hn : n < 2048)
    (hi : i = fun _ => BitVec.ofNat 32 n) (s : Fin 2048) (b : Fin 4) (h : Fin 8) (d : Fin 64) :
    Host.dynamicUpdateSlice x (broadcastInDim S1x4x8x64 ![1, 2, 3] bcast_S4x8x64_S1x4x8x64_1_2_3 u) (rowAt i) updateFits_S2048x4x8x64_S1x4x8x64
      (ix4 s b h d) = if s.val = n then u (ix3 b h d) else x (ix4 s b h d) := by
  rw [Host.dynamicUpdateSlice_eq_updateSlice x _ (rowAt i) _ ![n, 0, 0, 0] (fun a => by
    rw [rowAt_eq i n hn hi a]
    match a with
    | ⟨0, _⟩ => show (min (max (n : ℤ) 0) ((2048 - 1 : ℕ) : ℤ)).toNat = n; omega
    | ⟨1, _⟩ => rfl
    | ⟨2, _⟩ => rfl
    | ⟨3, _⟩ => rfl) (row_slices n hn), updateSlice_apply]
  by_cases hs : s.val = n
  · rw [if_pos hs, dif_pos (fun a => by
      have := b.isLt; have := h.isLt; have := d.isLt
      match a with
      | ⟨0, _⟩ => show n ≤ s.val ∧ s.val < n + 1; omega
      | ⟨1, _⟩ => show 0 ≤ b.val ∧ b.val < 0 + 4; omega
      | ⟨2, _⟩ => show 0 ≤ h.val ∧ h.val < 0 + 8; omega
      | ⟨3, _⟩ => show 0 ≤ d.val ∧ d.val < 0 + 64; omega)]
    pointwise
  · rw [if_neg hs, dif_neg (fun hin => hs (by have := hin 0; change n ≤ s.val ∧ s.val < n + 1 at this; omega))]

theorem sum_real {n : ℕ} {f g : Fin n → EReal} {u w : Fin n → ℝ} (hf : ∀ i, f i = ((u i : ℝ) : EReal)) (hg : ∀ i, g i = ((w i : ℝ) : EReal)) :
    ∑ i, f i * g i = ((∑ i, u i * w i : ℝ) : EReal) := by
  rw [coe_sum]
  exact Finset.sum_congr rfl fun i _ => by rw [hf, hg, EReal.coe_mul]

/-- The step's arithmetic on real numbers. -/
theorem buf_calc {m g p w k : EReal} {m' g' p' w' k' : ℝ} (hm : m = (m' : EReal)) (hg : g = (g' : EReal)) (hp : p = (p' : EReal))
    (hw : w = (w' : EReal)) (hk : k = (k' : EReal)) : m * g + (p - w) * k = ((m' * g' + (p' - w') * k' : ℝ) : EReal) := by
  subst hm hg hp hw hk
  rw [EReal.coe_add, EReal.coe_mul, EReal.coe_mul, EReal.coe_sub]
theorem mem_calc {m p k l b : EReal} {m' p' k' l' b' : ℝ} (hm : m = (m' : EReal)) (hp : p = (p' : EReal)) (hk : k = (k' : EReal))
    (hl : l = (l' : EReal)) (hb : b = (b' : EReal)) : m - p * k - l * b = ((m' - p' * k' - l' * b' : ℝ) : EReal) := by
  subst hm hp hk hl hb
  rw [EReal.coe_sub, EReal.coe_sub, EReal.coe_mul, EReal.coe_mul]

/-- A vector's entry over the vector's norm, raised a little: zero where an entry is infinite. -/
theorem unit_calc (f : Fin 64 → EReal) (d : Fin 64) :
    Ideal.div (f d) (Ideal.sqrt (∑ i, f i * f i) + Ideal.ofBits .f32 0x358637BD#32) = ((unitE f d : ℝ) : EReal) := by
  rw [k6]
  by_cases h : ∀ d, f d = ((f d).toReal : EReal)
  · rw [unitE_real h, sum_real h h, Ideal.sqrt_coe, if_neg (not_lt.mpr (Finset.sum_nonneg fun _ _ => mul_self_nonneg _)), ← EReal.coe_add, h d]
    exact (Ideal.div_coe (nm_pos fun d => (f d).toReal).ne' _).trans (EReal.coe_mul _ _).symm
  · rw [unitE_inf h, sq_sum_top h]
    show Ideal.div (f d) ((⊤ : EReal) + _) = _
    rw [EReal.top_add_coe, Ideal.div, if_neg (by simp), EReal.inv_top, mul_zero]
    rfl

/-- What the loop carries before step `n`: the sequences, the rates, the states after `n` steps and the outputs so far. -/
structure Carry (a : Args) (n : ℕ) (V : Valuation τ sig (Elt Ideal)) : Prop where
  k : ∀ (s : Fin 2048) (b : Fin 4) (h : Fin 8) (d : Fin 64),
    (V (Proc.devRef .tc main_v107_0) : FVec Ideal S2048x4x8x64 .f32) (ix4 s b h d) = a.proj.k (2048 * b.val + s.val) h d
  v : ∀ (s : Fin 2048) (b : Fin 4) (h : Fin 8) (d : Fin 64),
    (V (Proc.devRef .tc main_v107_1) : FVec Ideal S2048x4x8x64 .f32) (ix4 s b h d) = ((a.proj.v (2048 * b.val + s.val) h d : ℝ) : EReal)
  q : ∀ (s : Fin 2048) (b : Fin 4) (h : Fin 8) (d : Fin 64),
    (V (Proc.devRef .tc main_v107_2) : FVec Ideal S2048x4x8x64 .f32) (ix4 s b h d) = ((a.proj.q (2048 * b.val + s.val) h d : ℝ) : EReal)
  mom : ∀ h : Fin 8, (V (Proc.devRef .tc main_v107_3) : FVec Ideal S1x8x1x1 .f32) (ix4 0 h 0 0) = ((a.scan.mom h : ℝ) : EReal)
  lr : ∀ h : Fin 8, (V (Proc.devRef .tc main_v107_4) : FVec Ideal S1x8x1x1 .f32) (ix4 0 h 0 0) = ((a.scan.lr h : ℝ) : EReal)
  ctr : (V (Proc.devRef .tc main_v107_5) : IVec S_ 32) = fun _ => BitVec.ofNat 32 n
  mem : ∀ (b : Fin 4) (h : Fin 8) (d e : Fin 64),
    (V (Proc.devRef .tc main_v107_6) : FVec Ideal S4x8x64x64 .f32) (ix4 b h d e) = (((a.scan.st b.val h n).1 d e : ℝ) : EReal)
  buf : ∀ (b : Fin 4) (h : Fin 8) (d e : Fin 64),
    (V (Proc.devRef .tc main_v107_7) : FVec Ideal S4x8x64x64 .f32) (ix4 b h d e) = (((a.scan.st b.val h n).2 d e : ℝ) : EReal)
  out : ∀ (s : Fin 2048) (b : Fin 4) (h : Fin 8) (d : Fin 64), s.val < n →
    (V (Proc.devRef .tc main_v107_8) : FVec Ideal S2048x4x8x64 .f32) (ix4 s b h d) = ((a.scan.o b.val s.val h d : ℝ) : EReal)

section
variable {a : Args} {n : ℕ} {V : Valuation τ sig (Elt Ideal)} (C : Carry a n V) (hn : n < 2048)
include C hn

/-- The step's key. -/
theorem key_read (b : Fin 4) (h : Fin 8) (d : Fin 64) :
    (res_main_while0b_v122 V : FVec Ideal S4x8x64 .f32) (ix3 b h d) = a.proj.k (2048 * b.val + n) h d :=
  (row_read _ _ n hn C.ctr b h d).trans (C.k ⟨n, hn⟩ b h d)

/-- The step's key at length one. -/
theorem unit_read (b : Fin 4) (h : Fin 8) (d : Fin 64) :
    (res_main_while0b_v130 V : FVec Ideal S4x8x64 .f32) (ix3 b h d) = ((a.scan.k b.val n h d : ℝ) : EReal) := by
  have hk := key_read C hn b h
  unfold res_main_while0b_v130
  generalize res_main_while0b_v122 V = K at hk ⊢
  pointwise
  refine Eq.trans ?_ (unit_calc (a.proj.k (2048 * b.val + n) h) d)
  rw [hk, Finset.sum_congr rfl fun i _ => by rw [hk i]]

/-- What the memory predicts for it. -/
theorem pred_read (b : Fin 4) (h : Fin 8) (d : Fin 64) :
    (res_main_while0b_v131 V : FVec Ideal S4x8x64 .f32) (ix3 b h d) = ((predOf (a.scan.st b.val h n).1 (a.scan.k b.val n h) d : ℝ) : EReal) := by
  have hk := unit_read C hn b h
  have hm := C.mem b h d
  unfold res_main_while0b_v131
  generalize res_main_while0b_v130 V = K at hk ⊢
  pointwise
  exact sum_real hm hk

/-- The momentum buffer after the step. -/
theorem buf_step (b : Fin 4) (h : Fin 8) (d e : Fin 64) :
    (res_main_while0b_v145 V : FVec Ideal S4x8x64x64 .f32) (ix4 b h d e) = (((a.scan.st b.val h (n + 1)).2 d e : ℝ) : EReal) := by
  have hk := unit_read C hn b h e
  have hp := pred_read C hn b h d
  have hv := (row_read _ _ n hn C.ctr b h d).trans (C.v ⟨n, hn⟩ b h d)
  unfold res_main_while0b_v145
  generalize res_main_while0b_v130 V = K at hk ⊢
  generalize res_main_while0b_v131 V = P at hp ⊢
  generalize shapeCast S4x8x64 (Host.dynamicSlice S1x4x8x64 (V (Proc.devRef .tc main_v107_1) : FVec Ideal S2048x4x8x64 .f32)
        (rowAt (V (Proc.devRef .tc main_v107_5))) sliceFits_S2048x4x8x64_S1x4x8x64) shapeCasts_S1x4x8x64_S4x8x64 = W at hv ⊢
  pointwise
  exact buf_calc (C.mom h) (C.buf b h d e) hp hv hk

/-- The memory after the step. -/
theorem mem_step (b : Fin 4) (h : Fin 8) (d e : Fin 64) :
    (step_main_v107_6 V : FVec Ideal S4x8x64x64 .f32) (ix4 b h d e) = (((a.scan.st b.val h (n + 1)).1 d e : ℝ) : EReal) := by
  have hk := unit_read C hn b h e
  have hp := pred_read C hn b h d
  have hb := buf_step C hn b h d e
  unfold step_main_v107_6
  generalize res_main_while0b_v130 V = K at hk ⊢
  generalize res_main_while0b_v131 V = P at hp ⊢
  generalize res_main_while0b_v145 V = B at hb ⊢
  rw [id_eq]
  pointwise
  exact mem_calc (C.mem b h d e) hp hk (C.lr h) hb

/-- The step's output. -/
theorem out_step (b : Fin 4) (h : Fin 8) (d : Fin 64) :
    (Host.dotGeneral (F := Ideal) (φ₁ := .f32) (φ₂ := .f32) dot_S4x8x64x64_S4x8x64_S4x8x64_3_2_2_n_01_01 none (V (Proc.devRef .tc main_v107_6) : FVec Ideal S4x8x64x64 .f32)
      (shapeCast S4x8x64 (Host.dynamicSlice S1x4x8x64 (V (Proc.devRef .tc main_v107_2) : FVec Ideal S2048x4x8x64 .f32)
        (rowAt (V (Proc.devRef .tc main_v107_5))) sliceFits_S2048x4x8x64_S1x4x8x64) shapeCasts_S1x4x8x64_S4x8x64) : FVec Ideal S4x8x64 .f32) (ix3 b h d)
      = ((a.scan.o b.val n h d : ℝ) : EReal) := by
  have hq := fun e => (row_read _ _ n hn C.ctr b h e).trans (C.q ⟨n, hn⟩ b h e)
  generalize shapeCast S4x8x64 (Host.dynamicSlice S1x4x8x64 (V (Proc.devRef .tc main_v107_2) : FVec Ideal S2048x4x8x64 .f32)
        (rowAt (V (Proc.devRef .tc main_v107_5))) sliceFits_S2048x4x8x64_S1x4x8x64) shapeCasts_S1x4x8x64_S4x8x64 = Q at hq ⊢
  pointwise
  exact sum_real (C.mem b h d) hq

/-- One step on. -/
theorem carry_step : Carry a (n + 1) (STEP V) where
  k s b h d := (congrFun (STEP_main_v107_0 V) _).trans (C.k s b h d)
  v s b h d := (congrFun (STEP_main_v107_1 V) _).trans (C.v s b h d)
  q s b h d := (congrFun (STEP_main_v107_2 V) _).trans (C.q s b h d)
  mom h := (congrFun (STEP_main_v107_3 V) _).trans (C.mom h)
  lr h := (congrFun (STEP_main_v107_4 V) _).trans (C.lr h)
  ctr := (STEP_main_v107_5 V).trans (by
    show addi (V (Proc.devRef .tc main_v107_5) : IVec S_ 32) (constantI S_ 32 1#32) = _
    rw [C.ctr]; funext _
    exact (BitVec.ofNat_add n 1).symm)
  mem b h d e := (congrFun (STEP_main_v107_6 V) _).trans (mem_step C hn b h d e)
  buf b h d e := (congrFun (STEP_main_v107_7 V) _).trans (buf_step C hn b h d e)
  out s b h d hs := (congrFun (STEP_main_v107_8 V) _).trans <|
    (row_write _ _ _ n hn C.ctr s b h d).trans (by
      by_cases e : s.val = n
      · rw [if_pos e, e]; exact out_step C hn b h d
      · rw [if_neg e]; exact C.out s b h d (by omega))

end

end Delta

end
-- ==== Proof.Delta.RefStart.lean ====
/- What the reference's loop starts from, and what follows it. -/
module

public import proofs.«01_k».proof.Proof.Delta.RefStep

@[expose] public section

set_option maxRecDepth 16384

noncomputable section

namespace Delta

open Idealize.ShloMosaic Cert.ReferenceIdeal Cert.ReferenceIdeal.Gen Cert.ReferenceIdeal.Value
open StableHlo (after)
open Matrix (of)

/-- A projection by heads. -/
def headsF (x : FVec Ideal S4x2048x1024 .f32) (W : FVec Ideal S1024x512 .f32) : FVec Ideal S4x8x2048x64 .f32 :=
  transpose S4x8x2048x64 [0, 2, 1, 3] (shapeCast S4x2048x8x64 (Host.dotGeneral dot_S4x2048x1024_S1024x512_S4x2048x512_2_0_01_1_n_n none x W)
    shapeCasts_S4x2048x512_S4x2048x8x64) transposes_S4x2048x8x64_S4x8x2048x64_0_2_1_3

/-- The mean over a head's lanes. -/
def meanF (T : FVec Ideal S4x8x2048x64 .f32) : FVec Ideal S4x8x2048x1 .f32 :=
  Host.divf (broadcastInDim S4x8x2048x1 ![0, 1, 2] bcast_S4x8x2048_S4x8x2048x1_0_1_2
      (Host.reduceAdd T (constant S_ .f32 0x00000000#32) reducesTo_S4x8x2048x64_S4x8x2048_d3 h_S_))
    (broadcastInDim S4x8x2048x1 ![] bcast_S_S4x8x2048x1 (constant S_ .f32 0x42800000#32))

/-- What exceeds the mean. -/
def devF (T : FVec Ideal S4x8x2048x64 .f32) : FVec Ideal S4x8x2048x64 .f32 :=
  subf T (broadcastInDim S4x8x2048x64 ![0, 1, 2, 3] bcast_S4x8x2048x1_S4x8x2048x64_0_1_2_3 (meanF T))

/-- Layer normalisation over a head's lanes. -/
def lnF (T : FVec Ideal S4x8x2048x64 .f32) (g b : FVec Ideal S64 .f32) : FVec Ideal S4x8x2048x64 .f32 :=
  addf (mulf (mulf (devF T) (broadcastInDim S4x8x2048x64 ![0, 1, 2, 3] bcast_S4x8x2048x1_S4x8x2048x64_0_1_2_3
      (Host.rsqrt (addf (meanF (mulf (devF T) (devF T))) (broadcastInDim S4x8x2048x1 ![] bcast_S_S4x8x2048x1 (constant S_ .f32 0x3727C5AC#32))))))
    (broadcastInDim S4x8x2048x64 ![0, 1, 2, 3] bcast_S1x1x1x64_S4x8x2048x64_0_1_2_3 (broadcastInDim S1x1x1x64 ![3] bcast_S64_S1x1x1x64_3 g)))
    (broadcastInDim S4x8x2048x64 ![0, 1, 2, 3] bcast_S1x1x1x64_S4x8x2048x64_0_1_2_3 (broadcastInDim S1x1x1x64 ![3] bcast_S64_S1x1x1x64_3 b))

/-- Step by step. -/
def stepsF (T : FVec Ideal S4x8x2048x64 .f32) : FVec Ideal S2048x4x8x64 .f32 :=
  transpose S2048x4x8x64 [2, 0, 1, 3] T transposes_S4x8x2048x64_S2048x4x8x64_2_0_1_3

theorem stepsF_apply (T : FVec Ideal S4x8x2048x64 .f32) (s : Fin 2048) (b : Fin 4) (h : Fin 8) (d : Fin 64) :
    stepsF T (ix4 s b h d) = T (ix4 b h s d) := by
  unfold stepsF
  pointwise

theorem k64r : Ideal.ofBits .f32 0x42800000#32 = ((64 : ℝ) : EReal) := by
  simp [Ideal.ofBits, Ideal.ieee, -EReal.coe_mul]; norm_num

theorem headsF_real (x : FVec Ideal S4x2048x1024 .f32) (W : FVec Ideal S1024x512 .f32) (hx : Real' x) (hW : Real' W)
    (b : Fin 4) (h : Fin 8) (s : Fin 2048) (d : Fin 64) :
    headsF x W (ix4 b h s d) = ((prjH (xr x (2048 * b.val + s.val)) (wr W) h d : ℝ) : EReal) := by
  unfold headsF
  pointwise
  have hb := b.isLt
  have hs := s.isLt
  have hi : ∀ i, x (ix3 b s i) = ((xr x (2048 * b.val + s.val) i : ℝ) : EReal) := fun i =>
    (hx _).trans (congrArg (fun j => ((EReal.toReal (x j) : ℝ) : EReal)) (by
      funext a
      match a with
      | ⟨0, _⟩ => apply Fin.ext; show b.val = (2048 * b.val + s.val) / 2048 % 4; omega
      | ⟨1, _⟩ => apply Fin.ext; show s.val = (2048 * b.val + s.val) % 2048 % 2048; omega
      | ⟨2, _⟩ => rfl))
  have hl : ∀ i (l : Fin 512), l.val = h.val * 64 + d.val → W (ix2 i l) = ((wr W i (lane h d) : ℝ) : EReal) := fun i l e =>
    (hW _).trans (congrArg (fun j => ((EReal.toReal (W (ix2 i j)) : ℝ) : EReal)) (Fin.ext (by show l.val = 64 * h.val + d.val; omega)))
  exact sum_real hi fun i => hl i _ rfl

theorem meanF_real (T : FVec Ideal S4x8x2048x64 .f32) (b : Fin 4) (h : Fin 8) (s : Fin 2048) (u : Vc) (hT : ∀ d, T (ix4 b h s d) = ((u d : ℝ) : EReal)) :
    meanF T (ix4 b h s 0) = ((mean u : ℝ) : EReal) := by
  unfold meanF
  pointwise
  rw [k64r, Ideal.div_coe (by norm_num : (64 : ℝ) ≠ 0)]
  have hs : ∑ i, T (ix4 b h s i) = ((∑ d, u d : ℝ) : EReal) := by
    rw [coe_sum]; exact Finset.sum_congr rfl fun i _ => hT i
  rw [hs]
  exact (EReal.coe_mul _ _).symm

theorem devF_real (T : FVec Ideal S4x8x2048x64 .f32) (b : Fin 4) (h : Fin 8) (s : Fin 2048) (u : Vc) (hT : ∀ d, T (ix4 b h s d) = ((u d : ℝ) : EReal))
    (d : Fin 64) : devF T (ix4 b h s d) = ((u d - mean u : ℝ) : EReal) := by
  have hm := meanF_real T b h s u hT
  unfold devF
  pointwise
  rw [hT, hm, EReal.coe_sub]

theorem lnF_any (T : FVec Ideal S4x8x2048x64 .f32) (g o : FVec Ideal S64 .f32)
    (b : Fin 4) (h : Fin 8) (s : Fin 2048) (u : Vc) (hT : ∀ d, T (ix4 b h s d) = ((u d : ℝ) : EReal))
    (d : Fin 64) : lnF T g o (ix4 b h s d) = lnE u (fun d => g (ix1 d)) (fun d => o (ix1 d)) d := by
  have hd := devF_real T b h s u hT
  have hv := meanF_real (mulf (devF T) (devF T)) b h s (fun d => (u d - mean u) * (u d - mean u)) (fun d => by
    show devF T _ * devF T _ = _
    rw [hd, EReal.coe_mul])
  unfold lnF
  pointwise
  have hp : 0 < var u + e5 := add_pos_of_nonneg_of_pos (var_nonneg u) e5_pos
  rw [hd, hv, k5, ← EReal.coe_add]
  change ((u d - mean u : ℝ) : EReal) * Ideal.rsqrt ((var u + e5 : ℝ) : EReal) * g (ix1 d) + o (ix1 d) = _
  rw [Ideal.rsqrt_coe, if_neg (not_lt.mpr hp.le), if_neg hp.ne', ← EReal.coe_mul]
  rfl

theorem lnF_real (T : FVec Ideal S4x8x2048x64 .f32) (g o : FVec Ideal S64 .f32) (hg : Real' g) (ho : Real' o)
    (b : Fin 4) (h : Fin 8) (s : Fin 2048) (u : Vc) (hT : ∀ d, T (ix4 b h s d) = ((u d : ℝ) : EReal))
    (d : Fin 64) : lnF T g o (ix4 b h s d) = ((lnR u (vr g) (vr o) d : ℝ) : EReal) := by
  rw [lnF_any T g o b h s u hT, ← lnE_real, show (fun d => g (ix1 d)) = fun d => ((vr g d : ℝ) : EReal) from funext fun d => hg _,
    show (fun d => o (ix1 d)) = fun d => ((vr o d : ℝ) : EReal) from funext fun d => ho _]

section
variable (V : Valuation τ sig (Elt Ideal))
theorem k_start : (after hostOps0 V (Proc.devRef .tc main_v107_0) : FVec Ideal S2048x4x8x64 .f32)
    = stepsF (lnF (headsF (V (Proc.devRef .tc main_arg0)) (V (Proc.devRef .tc main_arg3))) (V (Proc.devRef .tc main_arg7)) (V (Proc.devRef .tc main_arg8))) := by
  after_reads_simp
  rfl
theorem v_start : (after hostOps0 V (Proc.devRef .tc main_v107_1) : FVec Ideal S2048x4x8x64 .f32)
    = stepsF (lnF (headsF (V (Proc.devRef .tc main_arg0)) (V (Proc.devRef .tc main_arg4))) (V (Proc.devRef .tc main_arg9)) (V (Proc.devRef .tc main_arg10))) := by
  after_reads_simp
  rfl
theorem q_start : (after hostOps0 V (Proc.devRef .tc main_v107_2) : FVec Ideal S2048x4x8x64 .f32)
    = stepsF (lnF (headsF (V (Proc.devRef .tc main_arg0)) (V (Proc.devRef .tc main_arg5))) (V (Proc.devRef .tc main_arg11)) (V (Proc.devRef .tc main_arg12))) := by
  after_reads_simp
  rfl
theorem mom_start (h : Fin 8) : (after hostOps0 V (Proc.devRef .tc main_v107_3) : FVec Ideal S1x8x1x1 .f32) (ix4 0 h 0 0)
    = ((momOf ((V (Proc.devRef .tc main_arg14) : FVec Ideal S8 .f32) (ix1 h)) : ℝ) : EReal) := by
  after_reads_simp
  rw [id_eq]
  pointwise
  exact mom_term _
theorem lr_start (h : Fin 8) : (after hostOps0 V (Proc.devRef .tc main_v107_4) : FVec Ideal S1x8x1x1 .f32) (ix4 0 h 0 0)
    = ((lrOf ((V (Proc.devRef .tc main_arg13) : FVec Ideal S8 .f32) (ix1 h)) : ℝ) : EReal) := by
  after_reads_simp
  rw [id_eq]
  pointwise
  exact lr_term _
theorem ctr_start : (after hostOps0 V (Proc.devRef .tc main_v107_5) : IVec S_ 32) = fun _ => BitVec.ofNat 32 0 := by
  after_reads_simp
  rfl
theorem mem_start : (after hostOps0 V (Proc.devRef .tc main_v107_6) : FVec Ideal S4x8x64x64 .f32) = V (Proc.devRef .tc main_arg1) := by
  after_reads_simp
  rfl
theorem buf_start : (after hostOps0 V (Proc.devRef .tc main_v107_7) : FVec Ideal S4x8x64x64 .f32) = V (Proc.devRef .tc main_arg2) := by
  after_reads_simp
  rfl

/-- Before the first step the loop carries the arguments' data. -/
theorem carry_start (a : Args) (H : a.Fin') (hx : (V (Proc.devRef .tc main_arg0) : FVec Ideal S4x2048x1024 .f32) = a.x)
    (hmem : (V (Proc.devRef .tc main_arg1) : FVec Ideal S4x8x64x64 .f32) = a.mem)
    (hbuf : (V (Proc.devRef .tc main_arg2) : FVec Ideal S4x8x64x64 .f32) = a.buf)
    (hWk : (V (Proc.devRef .tc main_arg3) : FVec Ideal S1024x512 .f32) = a.Wk)
    (hWv : (V (Proc.devRef .tc main_arg4) : FVec Ideal S1024x512 .f32) = a.Wv)
    (hWq : (V (Proc.devRef .tc main_arg5) : FVec Ideal S1024x512 .f32) = a.Wq)
    (hgk : (V (Proc.devRef .tc main_arg7) : FVec Ideal S64 .f32) = a.gk) (hbk : (V (Proc.devRef .tc main_arg8) : FVec Ideal S64 .f32) = a.bk)
    (hgv : (V (Proc.devRef .tc main_arg9) : FVec Ideal S64 .f32) = a.gv) (hbv : (V (Proc.devRef .tc main_arg10) : FVec Ideal S64 .f32) = a.bv)
    (hgq : (V (Proc.devRef .tc main_arg11) : FVec Ideal S64 .f32) = a.gq) (hbq : (V (Proc.devRef .tc main_arg12) : FVec Ideal S64 .f32) = a.bq)
    (hls : (V (Proc.devRef .tc main_arg13) : FVec Ideal S8 .f32) = a.ls) (hms : (V (Proc.devRef .tc main_arg14) : FVec Ideal S8 .f32) = a.ms) :
    Carry a 0 (after hostOps0 V) where
  k s b h d := by
    rw [k_start, hx, hWk, hgk, hbk]
    refine (stepsF_apply _ s b h d).trans ?_
    exact lnF_any _ _ _ b h s _ (headsF_real _ _ H.x H.Wk b h s) d
  v s b h d := by
    rw [v_start, hx, hWv, hgv, hbv]
    refine (stepsF_apply _ s b h d).trans ?_
    exact lnF_real _ _ _ H.gv H.bv b h s _ (headsF_real _ _ H.x H.Wv b h s) d
  q s b h d := by
    rw [q_start, hx, hWq, hgq, hbq]
    refine (stepsF_apply _ s b h d).trans ?_
    exact lnF_real _ _ _ H.gq H.bq b h s _ (headsF_real _ _ H.x H.Wq b h s) d
  mom h := by rw [mom_start, hms]; rfl
  lr h := by rw [lr_start, hls]; rfl
  ctr := ctr_start V
  mem b h d e := by
    rw [mem_start, hmem, H.mem]
    exact congrArg (fun i => ((EReal.toReal (a.mem (ix4 i h d e)) : ℝ) : EReal)) (Fin.ext (Nat.mod_eq_of_lt b.isLt).symm)
  buf b h d e := by
    rw [buf_start, hbuf, H.buf]
    exact congrArg (fun i => ((EReal.toReal (a.buf (ix4 i h d e)) : ℝ) : EReal)) (Fin.ext (Nat.mod_eq_of_lt b.isLt).symm)
  out s b h d hs := absurd hs (by omega)

variable {V}
/-- The first result, of what the loop leaves. -/
theorem out_read (a : Args) (C : Carry a steps V) (hx : (V (Proc.devRef .tc main_arg0) : FVec Ideal S4x2048x1024 .f32) = a.x)
    (hWo : (V (Proc.devRef .tc main_arg6) : FVec Ideal S512x1024 .f32) = a.Wo)
    (hWg : (V (Proc.devRef .tc main_arg15) : FVec Ideal S1024x1024 .f32) = a.Wg)
    (hbg : (V (Proc.devRef .tc main_arg16) : FVec Ideal S1024 .f32) = a.bg) : (out_main_v121 V : FVec Ideal S4x2048x1024 .f32) = a.y := by
  funext j
  obtain ⟨b, s, n, rfl⟩ : ∃ (b : Fin 4) (s : Fin 2048) (n : Fin 1024), j = ix3 b s n := ⟨j 0, j 1, j 2, eq_ix3 j⟩
  unfold out_main_v121
  rw [hx, hWo, hWg, hbg]
  pointwise
  have hs : s.val < steps := by rw [steps_def]; exact s.isLt
  exact congrArg (Ideal.div 1 (1 + Ideal.exp (-(∑ i : Fin 1024, a.x (ix3 b s i) * a.Wg (ix2 i n) + a.bg (ix1 n)))) * ·)
    (Finset.sum_congr rfl fun l _ => congrArg (· * a.Wo (ix2 l n)) (C.out s b (hd l) (ln l) hs))

end

end Delta

end
-- ==== Proof.Delta.RefRun.lean ====
/- A run of the reference ends with the results of the arguments' data. -/
module

public import proofs.«01_k».proof.Proof.Delta.RefStart

@[expose] public section

set_option maxRecDepth 16384

noncomputable section

namespace Delta

open Idealize.ShloMosaic Idealize.ShloMosaic.TcCoe Cert.ReferenceIdeal Cert.ReferenceIdeal.Gen Cert.ReferenceIdeal.Value
open Idealize.SL Idealize.SL.Sem
open StableHlo (entryContents)

variable (m : (ℓ : Loc nD τ sig) → Buf (Elt Ideal) ℓ) (ρ : Dev nD → PrngReg)

/-- The arguments as the reference has them. -/
def argsR (c : Dev nD) : Args where
  x := m ((c.tc : Thread nD τ).loc main_arg0)
  mem := m ((c.tc : Thread nD τ).loc main_arg1)
  buf := m ((c.tc : Thread nD τ).loc main_arg2)
  Wk := m ((c.tc : Thread nD τ).loc main_arg3)
  Wv := m ((c.tc : Thread nD τ).loc main_arg4)
  Wq := m ((c.tc : Thread nD τ).loc main_arg5)
  Wo := m ((c.tc : Thread nD τ).loc main_arg6)
  gk := m ((c.tc : Thread nD τ).loc main_arg7)
  bk := m ((c.tc : Thread nD τ).loc main_arg8)
  gv := m ((c.tc : Thread nD τ).loc main_arg9)
  bv := m ((c.tc : Thread nD τ).loc main_arg10)
  gq := m ((c.tc : Thread nD τ).loc main_arg11)
  bq := m ((c.tc : Thread nD τ).loc main_arg12)
  ls := m ((c.tc : Thread nD τ).loc main_arg13)
  ms := m ((c.tc : Thread nD τ).loc main_arg14)
  Wg := m ((c.tc : Thread nD τ).loc main_arg15)
  bg := m ((c.tc : Thread nD τ).loc main_arg16)

/-- What the loop carries before every step. -/
theorem carry (c : Dev nD) (H : (argsR m c).Fin') : ∀ n, n ≤ 2048 → Carry (argsR m c) n (STEP^[n] (entryContents preI m c))
  | 0, _ => carry_start _ _ H rfl rfl rfl rfl rfl rfl rfl rfl rfl rfl rfl rfl rfl rfl
  | n + 1, h => by
    rw [Function.iterate_succ_apply']
    exact carry_step (carry c H n (by omega)) (by omega)

section
variable {m} {c : Dev nD} (H : (argsR m c).Fin')
include H

theorem ref_y : (out_main_v121 (STEP^[2048] (entryContents preI m c)) : FVec Ideal S4x2048x1024 .f32) = (argsR m c).y := by
  rw [← steps_def]
  exact out_read _ (carry m c H _ steps_def.le) (iter_main_arg0 m c _) (iter_main_arg6 m c _) (iter_main_arg15 m c _) (iter_main_arg16 m c _)

theorem ref_mem : ((STEP^[2048] (entryContents preI m c)) (Proc.devRef .tc main_v107_6) : FVec Ideal S4x8x64x64 .f32) = (argsR m c).memOut := by
  rw [← steps_def]
  funext j
  obtain ⟨b, h, d, e, rfl⟩ : ∃ (b : Fin 4) (h : Fin 8) (d e : Fin 64), j = ix4 b h d e := ⟨j 0, j 1, j 2, j 3, eq_ix4 j⟩
  exact (carry m c H _ steps_def.le).mem b h d e

theorem ref_buf : ((STEP^[2048] (entryContents preI m c)) (Proc.devRef .tc main_v107_7) : FVec Ideal S4x8x64x64 .f32) = (argsR m c).bufOut := by
  rw [← steps_def]
  funext j
  obtain ⟨b, h, d, e, rfl⟩ : ∃ (b : Fin 4) (h : Fin 8) (d e : Fin 64), j = ix4 b h d e := ⟨j 0, j 1, j 2, j 3, eq_ix4 j⟩
  exact (carry m c H _ steps_def.le).buf b h d e

end

end Delta

end
-- ==== Proof.Delta.Finite.lean ====
/- The precondition read back: the arguments it names are real numbers. -/
module

public import proofs.«01_k».proof.Proof.Delta.Args
public import proofs.«01_k».proof.Pre_finite
public import Idealize.ShloMosaic.Lib.ReduceAll

@[expose] public section

set_option maxRecDepth 16384

noncomputable section

namespace Delta

open Idealize.ShloMosaic Cert.Pre_finite

/-- The side conditions the precondition's operations take. -/
theorem facts_finite : Cert.Pre_finite.Facts where
  bcast_S_S4x2048x1024 := by decide
  reducesTo_S4x2048x1024_S_d0_1_2 := by decide
  h_S_ := by decide
  bcast_S_S4x8x64x64 := by decide
  reducesTo_S4x8x64x64_S_d0_1_2_3 := by decide
  bcast_S_S1024x512 := by decide
  reducesTo_S1024x512_S_d0_1 := by decide
  bcast_S_S64 := by decide
  reducesTo_S64_S_d0 := by decide

/-- A value whose magnitude is below infinity is a real number. -/
theorem real_of_lt (x : EReal) (h : FloatOps.cmpf (F := Ideal) (φ := .f32) .olt (FloatOps.absf (F := Ideal) (φ := .f32) x) (Ideal.ofBits .f32 0x7F800000#32) = 1#1) :
    x = ((EReal.toReal x : ℝ) : EReal) := by
  have hi : Ideal.ofBits .f32 0x7F800000#32 = (⊤ : EReal) := by simp [Ideal.ofBits, Ideal.ieee]
  rw [hi] at h
  induction x with
  | bot => exfalso; revert h; simp [FloatOps.cmpf, FloatOps.absf, Ideal.cmp]
  | top => exfalso; revert h; simp [FloatOps.cmpf, FloatOps.absf, Ideal.cmp]
  | coe r => rfl

section
variable {S : Shape} {axes : List (Fin S.rank)}
/-- One argument's test read back. -/
theorem real_of_all (A : FVec Ideal S .f32) (hb : S_.BroadcastsInDim S (![] : Fin 0 → Fin S.rank)) (hr) (hu : 0 < S_.numel) (j : S_.Idx)
    (e : Host.reduce (s := S) (t := S_) (axes := axes) IntOp.andi (cmpf .olt (Host.absf A) (broadcastInDim S ![] hb (constant S_ .f32 0x7F800000#32)))
      (constantI S_ 1 1#1) hr hu j = 1#1) : Real' A := fun i =>
  real_of_lt _ (Host.reduce_andi_all _ _ _ _ j e i)
end

theorem and_split (x y : IVec S_ 1) (j : S_.Idx) (h : andi x y j = 1#1) : x j = 1#1 ∧ y j = 1#1 := by
  change x j &&& y j = 1#1 at h
  generalize x j = p at h
  generalize y j = q at h
  revert p q; decide

/-- Where the precondition holds, the arguments it names are real numbers. -/
theorem finite_read [Cert.Pre_finite.Facts] (a : Args) (h : (Cert.Pre_finite.fn (F := Ideal) a.x a.mem a.buf a.Wk a.Wv a.Wq a.Wo a.gk a.bk a.gv a.bv a.gq a.bq a.ls a.ms a.Wg a.bg
    : IVec S_ 1) = fun _ => 1#1) : a.Fin' := by
  have e := congrFun h (Shape.Idx.first (by decide))
  generalize Shape.Idx.first (s := S_) _ = j at e
  unfold fn fn_part1 fn_part2 at e
  obtain ⟨e, e10⟩ := and_split _ _ _ e
  obtain ⟨e, e9⟩ := and_split _ _ _ e
  obtain ⟨e, e8⟩ := and_split _ _ _ e
  obtain ⟨e, e7⟩ := and_split _ _ _ e
  obtain ⟨e, e6⟩ := and_split _ _ _ e
  obtain ⟨e, e5⟩ := and_split _ _ _ e
  obtain ⟨e, e4⟩ := and_split _ _ _ e
  obtain ⟨e, e3⟩ := and_split _ _ _ e
  obtain ⟨e1, e2⟩ := and_split _ _ _ e
  exact ⟨real_of_all _ _ _ _ _ e1, real_of_all _ _ _ _ _ e2, real_of_all _ _ _ _ _ e3, real_of_all _ _ _ _ _ e4, real_of_all _ _ _ _ _ e5,
    real_of_all _ _ _ _ _ e6, real_of_all _ _ _ _ _ e7, real_of_all _ _ _ _ _ e8, real_of_all _ _ _ _ _ e9, real_of_all _ _ _ _ _ e10⟩

end Delta

end
-- ==== Proof.lean ====
/- The proof of the claims: the frames of the three programs, the idealized kernel's being the kernel's own text, and the
   equality of the kernel's three results with the reference's. The mathematics is in Proof/Delta: the block's linear algebra
   (Math), the layer norms (Norm), what each call leaves (Region0, Region1, Region2), the kernel's run (KernelRun), the
   reference's run (RefRun), and the precondition read back (Finite). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.Gen.ReferenceIdeal.Run
public import proofs.«01_k».proof.Proof.Delta.KernelRun
public import proofs.«01_k».proof.Proof.Delta.RefRun
public import proofs.«01_k».proof.Proof.Delta.Finite
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- A run of the reference ends with its arguments unchanged and every counter at zero. -/
theorem frame_reference : Cert.quiescent_ReferenceIdeal := fun m ρ _ =>
  (θ_run (Cert.ReferenceIdeal.defs (F := Ideal)) _ _).mono (fun r h => ⟨fun c => (h c).2.2.2, sem_eq_zero_of_no_sems (by decide) r.2⟩)
    (Cert.ReferenceIdeal.Value.run (F := Ideal) m ρ)

/-- On arguments the precondition holds of, the kernel's three results are the reference's. -/
theorem value [hp : Cert.Pre_finite.Facts] : Cert.algebraic_KernelIdeal_ReferenceIdeal_pre_finite := by
  intro m ρ m' ρ' hpre hagree
  have HK : ∀ c, (Delta.argsK m c).Fin' := fun c => Delta.finite_read (Delta.argsK m c) (hpre c)
  have e : ∀ c, Delta.argsR m' c = Delta.argsK m c := fun c => (Delta.Args.mk.injEq ..).mpr (hagree c)
  have HR : ∀ c, (Delta.argsR m' c).Fin' := fun c => (e c).symm ▸ HK c
  refine ⟨fun c => (Delta.argsK m c).y, fun c => (Delta.argsK m c).memOut, fun c => (Delta.argsK m c).bufOut, ?_, ?_⟩
  · refine (θ_run _ _ _).mono (fun r h c => ?_) (Delta.kernel_run m ρ HK)
    obtain ⟨hy, hm, hb, ha⟩ := h c
    exact ⟨hy, hm, hb, ha _ (by decide), ha _ (by decide), ha _ (by decide), ha _ (by decide), ha _ (by decide), ha _ (by decide),
      ha _ (by decide), ha _ (by decide), ha _ (by decide), ha _ (by decide), ha _ (by decide), ha _ (by decide), ha _ (by decide),
      ha _ (by decide), ha _ (by decide), ha _ (by decide), ha _ (by decide)⟩
  · refine (θ_run _ _ _).mono (fun r h c => ?_) (Cert.ReferenceIdeal.Value.run (F := Ideal) m' ρ')
    obtain ⟨hy, hm, hb, ha⟩ := h c
    exact ⟨hy.trans ((Delta.ref_y (HR c)).trans (congrArg Delta.Args.y (e c))), hm.trans ((Delta.ref_mem (HR c)).trans (congrArg Delta.Args.memOut (e c))),
      hb.trans ((Delta.ref_buf (HR c)).trans (congrArg Delta.Args.bufOut (e c))), ha⟩

/-- All the claims: the frames, the idealized kernel's agreement with the kernel, and the equality of the results. -/
theorem claim : Cert.Claim := ⟨Cert.Kernel.Gen.facts, Cert.KernelIdeal.Gen.facts, Cert.ReferenceIdeal.Gen.facts, Delta.facts_finite,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, value (hp := Delta.facts_finite)⟩

end Cert.Proof

end
